-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v0_1)) (v1 : (c : Dev Cert.AmaxIdeal.nD) → Buf (Elt Ideal) ((c.tc : Thread Cert.AmaxIdeal.nD Cert.AmaxIdeal.τ).loc Cert.AmaxIdeal.main_v0_2)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0_1) = v0 c
          ∧ r.2.mem ((c.tc : Thread Cert.AmaxIdeal.nD Cert.AmaxIdeal.τ).loc Cert.AmaxIdeal.main_v0_2) = v1 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v12) = v0 c
          ∧ r.2.mem ((c.tc : Thread Cert.AmaxReferenceIdeal.nD Cert.AmaxReferenceIdeal.τ).loc Cert.AmaxReferenceIdeal.main_v13) = v1 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal)
    ∧ preserves_Amax_AmaxIdeal
    ∧ algebraic_AmaxIdeal_AmaxReferenceIdeal (hAmaxIdeal := hAmaxIdeal) (hAmaxReferenceIdeal := hAmaxReferenceIdeal)
-- ==== Kernel.lean ====
abbrev S1 : Shape := ⟨1, ![1]⟩
abbrev S4x2304x4096 : Shape := ⟨3, ![4, 2304, 4096]⟩
abbrev S14336x4096 : Shape := ⟨2, ![14336, 4096]⟩
abbrev S9216x4096 : Shape := ⟨2, ![9216, 4096]⟩
abbrev S9216x14336 : Shape := ⟨2, ![9216, 14336]⟩
abbrev S1024x4096 : Shape := ⟨2, ![1024, 4096]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S1, .f32⟩
  | .hbm, ⟨1, _⟩ => ⟨S4x2304x4096, .bf16⟩
  | .hbm, ⟨2, _⟩ => ⟨S14336x4096, .bf16⟩
  | .hbm, ⟨3, _⟩ => ⟨S9216x4096, .bf16⟩
  | .hbm, ⟨4, _⟩ => ⟨S9216x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![14, 9], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1 : Shape := ⟨1, ![1]⟩
abbrev S4x2304x4096 : Shape := ⟨3, ![4, 2304, 4096]⟩
abbrev S14336x4096 : Shape := ⟨2, ![14336, 4096]⟩
abbrev S4x2304x2048 : Shape := ⟨3, ![4, 2304, 2048]⟩
abbrev S14336x2048 : Shape := ⟨2, ![14336, 2048]⟩
abbrev S4x2304x14336 : Shape := ⟨3, ![4, 2304, 14336]⟩
abbrev S_ : Shape := ⟨0, ![]⟩
abbrev S9216x14336 : Shape := ⟨2, ![9216, 14336]⟩

abbrev nBuf : Space → Nat
  | .hbm => 15
  | .vmem => 0
  | .smem => 0
  | _ => 0

abbrev bufTy : (tb : Table) → Fin (tcTables nBuf tb) → BufTy
  | .hbm, ⟨0, _⟩ => ⟨S1, .f32⟩
  | .hbm, ⟨1, _⟩ => ⟨S4x2304x4096, .bf16⟩
  | .hbm, ⟨2, _⟩ => ⟨S14336x4096, .bf16⟩
  | .hbm, ⟨3, _⟩ => ⟨S4x2304x2048, .bf16⟩
  | .hbm, ⟨4, _⟩ => ⟨S14336x2048, .bf16⟩
  | .hbm, ⟨5, _⟩ => ⟨S4x2304x14336, .f32⟩
  | .hbm, ⟨6, _⟩ => ⟨S4x2304x2048, .bf16⟩
  | .hbm, ⟨7, _⟩ => ⟨S14336x2048, .bf16⟩
  | .hbm, ⟨8, _⟩ => ⟨S4x2304x14336, .f32⟩
  | .hbm, ⟨9, _⟩ => ⟨S4x2304x14336, .f32⟩
  | .hbm, ⟨10, _⟩ => ⟨S_, .f32⟩
  | .hbm, ⟨11, _⟩ => ⟨S4x2304x14336, .f32⟩
  | .hbm, ⟨12, _⟩ => ⟨S4x2304x14336, .f32⟩
  | .hbm, ⟨13, _⟩ => ⟨S4x2304x14336, .bf16⟩
  | .hbm, ⟨14, _⟩ => ⟨S9216x14336, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Amax.lean ====
abbrev S14336x4096 : Shape := ⟨2, ![14336, 4096]⟩
abbrev S896x4096 : Shape := ⟨2, ![896, 4096]⟩
abbrev S896x256 : Shape := ⟨2, ![896, 256]⟩
abbrev S1 : Shape := ⟨1, ![1]⟩
abbrev S1024x4096 : Shape := ⟨2, ![1024, 4096]⟩
abbrev S64x4096 : Shape := ⟨2, ![64, 4096]⟩
abbrev S64x128 : Shape := ⟨2, ![64, 128]⟩
abbrev S16x128 : Shape := ⟨2, ![16, 128]⟩
abbrev S8x2x128 : Shape := ⟨3, ![8, 2, 128]⟩
abbrev S8x128 : Shape := ⟨2, ![8, 128]⟩
abbrev S64x128x1 : Shape := ⟨3, ![64, 128, 1]⟩
abbrev S1x64x128 : Shape := ⟨3, ![1, 64, 128]⟩
abbrev S1x1x1 : Shape := ⟨3, ![1, 1, 1]⟩
abbrev S1x1 : Shape := ⟨2, ![1, 1]⟩

abbrev nBuf : Space → Nat
  | .hbm => 4
  | .vmem => 7
  | .smem => 1
  | _ => 0

abbrev bufTy : (tb : Table) → Fin (tcTables nBuf tb) → BufTy
  | .hbm, ⟨0, _⟩ => ⟨S14336x4096, .bf16⟩
  | .hbm, ⟨1, _⟩ => ⟨S896x4096, .bf16⟩
  | .hbm, ⟨2, _⟩ => ⟨S896x256, .fp8e4m3⟩
  | .hbm, ⟨3, _⟩ => ⟨S1, .f32⟩
  | .local _ .vmem, ⟨0, _⟩ => ⟨S1024x4096, .bf16⟩
  | .local _ .vmem, ⟨1, _⟩ => ⟨S1024x4096, .bf16⟩
  | .local _ .vmem, ⟨2, _⟩ => ⟨S64x4096, .bf16⟩
  | .local _ .vmem, ⟨3, _⟩ => ⟨S64x4096, .bf16⟩
  | .local _ .vmem, ⟨4, _⟩ => ⟨S896x256, .fp8e4m3⟩
  | .local _ .vmem, ⟨5, _⟩ => ⟨S64x128, .bf16⟩
  | .local _ .vmem, ⟨6, _⟩ => ⟨S896x256, .bf16⟩
  | .local _ .smem, ⟨0, _⟩ => ⟨S1, .f32⟩
  | _, _ => ⟨S14336x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![14], ![false]⟩

def k0_mult1 (i : grid0.Coords) : BitVec 32 :=
  let arg0 : BitVec 32 := BitVec.ofNat 32 (i 0).val
  let c64_i32 : BitVec 32 := 64#32
  let v22475 : BitVec 32 := Scalar.muli arg0 c64_i32
  v22475
def k0_off1 (i : grid0.Coords) : Fin 2 → Nat :=
  let arg0 : BitVec 32 := BitVec.ofNat 32 (i 0).val
  let c64_i32 : BitVec 32 := 64#32
  let v22475 : BitVec 32 := Scalar.muli arg0 c64_i32
  let v22476 : BitVec 32 := v22475
  let v22477 : Index := Scalar.indexCast v22476
  let c0_10365 : Index := 0#32
  ![v22477.toNat, 0]
def k0_mult2 (i : grid0.Coords) : BitVec 32 :=
  let arg0 : BitVec 32 := BitVec.ofNat 32 (i 0).val
  let c64_i32_10366 : BitVec 32 := 64#32
  let v22482 : BitVec 32 := Scalar.muli arg0 c64_i32_10366
  v22482
def k0_off2 (i : grid0.Coords) : Fin 2 → Nat :=
  let arg0 : BitVec 32 := BitVec.ofNat 32 (i 0).val
  let c64_i32_10366 : BitVec 32 := 64#32
  let v22482 : BitVec 32 := Scalar.muli arg0 c64_i32_10366
  let v22483 : BitVec 32 := v22482
  let v22484 : Index := Scalar.indexCast v22483
  let c128_10367 : Index := 128#32
  ![v22484.toNat, 128]
def k0_cond2 (i : grid0.Coords) : BitVec 1 :=
  let arg0 : BitVec 32 := BitVec.ofNat 32 (i 0).val
  let c13_i32_10368 : BitVec 32 := 13#32
  let v22488 : BitVec 1 := Scalar.cmpi .eq arg0 c13_i32_10368
  let v22489 : BitVec 32 := Scalar.extui v22488
  let c0_i32_10369 : BitVec 32 := 0#32
  let v22490 : BitVec 1 := Scalar.cmpi .ne v22489 c0_i32_10369
  v22490

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AmaxReferenceIdeal.lean ====
abbrev S14336x4096 : Shape := ⟨2, ![14336, 4096]⟩
abbrev S_ : Shape := ⟨0, ![]⟩
abbrev S896x16x256x16 : Shape := ⟨4, ![896, 16, 256, 16]⟩
abbrev S896x256 : Shape := ⟨2, ![896, 256]⟩
abbrev S1 : Shape := ⟨1, ![1]⟩

abbrev nBuf : Space → Nat
  | .hbm => 20
  | .vmem => 0
  | .smem => 0
  | _ => 0

abbrev bufTy : (tb : Table) → Fin (tcTables nBuf tb) → BufTy
  | .hbm, ⟨0, _⟩ => ⟨S14336x4096, .bf16⟩
  | .hbm, ⟨1, _⟩ => ⟨S14336x4096, .f32⟩
  | .hbm, ⟨2, _⟩ => ⟨S14336x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S896x16x256x16, .f32⟩
  | .hbm, ⟨8, _⟩ => ⟨S896x16x256x16, .f32⟩
  | .hbm, ⟨9, _⟩ => ⟨S_, .f32⟩
  | .hbm, ⟨10, _⟩ => ⟨S896x256, .f32⟩
  | .hbm, ⟨11, _⟩ => ⟨S_, .f32⟩
  | .hbm, ⟨12, _⟩ => ⟨S_, .f32⟩
  | .hbm, ⟨13, _⟩ => ⟨S896x256, .f32⟩
  | .hbm, ⟨14, _⟩ => ⟨S896x256, .f32⟩
  | .hbm, ⟨15, _⟩ => ⟨S_, .f32⟩
  | .hbm, ⟨16, _⟩ => ⟨S896x256, .f32⟩
  | .hbm, ⟨17, _⟩ => ⟨S896x256, .f32⟩
  | .hbm, ⟨18, _⟩ => ⟨S896x256, .fp8e4m3⟩
  | .hbm, ⟨19, _⟩ => ⟨S1, .f32⟩
  | _, _ => ⟨S14336x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Kept.Runs.lean ====
/-
  The amax program as traced: its region, its conditions over the grid points, and its buffers at a point.
-/
module

public import proofs.«01_k».proof.Proof.Gen.Amax.Launch
public import proofs.«01_k».proof.Proof.Gen.Amax.Skeleton
public import proofs.«01_k».proof.Proof.Gen.Amax.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Amax.Kept

open Cert.Amax Cert.Amax.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Amax`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 0 rfl).trans ((hA c 0).trans (V_main_arg0 m c))) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x128 .bf16 := Memref.whole cc0_scratch0
abbrev scM0_1 : Memref sig .tc .vmem S896x256 .bf16 := Memref.whole cc0_scratch1
/-- The scratch `arg5` the kernel carries between points, as a view: what it holds is stated through it. -/
abbrev VS0_0 : View sig .tc .vmem S64x128 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Amax.Kept

end
-- ==== Proof.Kept.RunA.lean ====
/-
  The body of the amax kernel as traced, run at the first grid point.
-/
module

public import proofs.«01_k».proof.Proof.Kept.Runs

@[expose] public section

-- membership in a rectangle of production extents (`View.cover_of_tiled`): the elaborator's structural look
-- recurses once per coordinate of the long axes
set_option maxRecDepth 16384

noncomputable section

namespace Cert.Amax.Kept

open Cert.Amax Cert.Amax.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15188000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (1, 2, 3) at anything, handed back at some contents nothing names. -/
noncomputable def kernelRun0_A (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : cond0_0 i) (hc1 : ¬cond0_1 i)
    (x0 : Vec F S1024x4096 .bf16) :
    { LS0 : List (View.Piece (Elt F) S64x128 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc0_block_amax i arg1 harg1 arg2 harg2 arg3 harg3 arg4 harg4 arg5 harg5 arg6 harg6) K } := by
  refine ⟨?_, fun E K => ?run⟩
  case run =>
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, ⟨%ds1, %fs1, -, HS1⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [HS0]; · iexists _; iexact HS0
    iexists _, _; isplitr; swap; · iexact HS1
    ipureintro; rfl

end Cert.Amax.Kept

end
-- ==== Proof.Kept.RunB.lean ====
/-
  The body of the amax kernel as traced, run at a grid point that is neither first nor last.
-/
module

public import proofs.«01_k».proof.Proof.Kept.Runs

@[expose] public section

-- membership in a rectangle of production extents (`View.cover_of_tiled`): the elaborator's structural look
-- recurses once per coordinate of the long axes
set_option maxRecDepth 16384

noncomputable section

namespace Cert.Amax.Kept

open Cert.Amax Cert.Amax.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15176000 in
/-- What the body's stores leave in each output's staging memref, as pieces (last first) IN CASE B (`scf.if` 0 not taken, `scf.if` 1 not taken: points 1, 2, … 12: 12 of 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (1, 2, 3) at anything, handed back at some contents nothing names. -/
noncomputable def kernelRun0_B (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : ¬cond0_1 i)
    (x0 : Vec F S1024x4096 .bf16) (xs0 : Vec F S64x128 .bf16) :
    { LS0 : List (View.Piece (Elt F) S64x128 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc0_block_amax i arg1 harg1 arg2 harg2 arg3 harg3 arg4 harg4 arg5 harg5 arg6 harg6) K } := by
  refine ⟨?_, fun E K => ?run⟩
  case run =>
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, ⟨%ds1, %fs1, -, HS1⟩, Hk⟩
    obtain rfl := harg1.eq_unread hf0; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [HS0]; · iexists _; iexact HS0
    iexists _, _; isplitr; swap; · iexact HS1
    ipureintro; rfl

end Cert.Amax.Kept

end
-- ==== Proof.Kept.RunC.lean ====
/-
  The body of the amax kernel as traced, run at the last grid point.
-/
module

public import proofs.«01_k».proof.Proof.Kept.Runs

@[expose] public section

-- membership in a rectangle of production extents (`View.cover_of_tiled`): the elaborator's structural look
-- recurses once per coordinate of the long axes
set_option maxRecDepth 16384

noncomputable section

namespace Cert.Amax.Kept

open Cert.Amax Cert.Amax.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 15200000 in
/-- What the body's stores leave in each output's staging memref, as pieces (last first) IN CASE C (`scf.if` 0 not taken, `scf.if` 1 taken: points 13), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (1, 2, 3) at anything, handed back at some contents nothing names. -/
noncomputable def kernelRun0_C (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : cond0_1 i)
    (x0 : Vec F S1024x4096 .bf16) (xs0 : Vec F S64x128 .bf16) :
    { LS0 : List (View.Piece (Elt F) S64x128 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc0_block_amax i arg1 harg1 arg2 harg2 arg3 harg3 arg4 harg4 arg5 harg5 arg6 harg6) K } := by
  refine ⟨?_, fun E K => ?run⟩
  case run =>
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, ⟨%ds1, %fs1, -, HS1⟩, Hk⟩
    obtain rfl := harg1.eq_unread hf0; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [HS0]; · iexists _; iexact HS0
    iexists _, _; isplitr; swap; · iexact HS1
    ipureintro; rfl

end Cert.Amax.Kept

end
-- ==== Proof.Kept.Frame.lean ====
/-
  The amax program as traced keeps its weight and ends with every semaphore at zero. What it leaves in its results is not named.
-/
module

public import proofs.«01_k».proof.Proof.Kept.RunA
public import proofs.«01_k».proof.Proof.Kept.RunB
public import proofs.«01_k».proof.Proof.Kept.RunC
public import Idealize.ShloMosaic.Lib.Claim

@[expose] public section

-- membership in a rectangle of production extents (`View.cover_of_tiled`): the elaborator's structural look
-- recurses once per coordinate of the long axes
set_option maxRecDepth 16384

noncomputable section

namespace Cert.Amax.Kept

open Cert.Amax Cert.Amax.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg5`, which the kernel carries between points, cover it: 2 pieces of `S64x128` tiling it (Lib/Ring.lean `Piece.tiledL`). -/
theorem scover0_A_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : cond0_0 i) (hc1 : ¬cond0_1 i)
    (x0 : Vec F S1024x4096 .bf16) (y : S64x128.Idx) :
    ∃ pc ∈ (kernelRun0_A c i arg1 harg1 arg2 harg2 arg3 harg3 arg4 harg4 arg5 harg5 arg6 harg6 hc0 hc1 x0).1, y ∈ pc.1.set :=
  View.cover_of_tiledL (kernelRun0_A c i arg1 harg1 arg2 harg2 arg3 harg3 arg4 harg4 arg5 harg5 arg6 harg6 hc0 hc1 x0).1 S64x128.size (by sl_kernel_rfl) y

/-- What case A leaves in scratch `arg5`: its pieces read back over junk. -/
def sout0_A_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : cond0_0 i) (hc1 : ¬cond0_1 i)
    (x0 : Vec F S1024x4096 .bf16) : Vec F S64x128 .bf16 :=
  VS0_0.read (Elt F) (VS0_0.writes (Elt F) VS0_0.junk (kernelRun0_A c i arg1 harg1 arg2 harg2 arg3 harg3 arg4 harg4 arg5 harg5 arg6 harg6 hc0 hc1 x0).1)

/-- Case B's pieces for scratch `arg5`, which the kernel carries between points, cover it: 1 piece of `S64x128` tiling it (Lib/Ring.lean `Piece.tiledL`). -/
theorem scover0_B_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : ¬cond0_1 i)
    (x0 : Vec F S1024x4096 .bf16) (xs0 : Vec F S64x128 .bf16) (y : S64x128.Idx) :
    ∃ pc ∈ (kernelRun0_B c i arg1 harg1 arg2 harg2 arg3 harg3 arg4 harg4 arg5 harg5 arg6 harg6 hc0 hc1 x0 xs0).1, y ∈ pc.1.set :=
  View.cover_of_tiledL (kernelRun0_B c i arg1 harg1 arg2 harg2 arg3 harg3 arg4 harg4 arg5 harg5 arg6 harg6 hc0 hc1 x0 xs0).1 S64x128.size (by sl_kernel_rfl) y

/-- What case B leaves in scratch `arg5`: its pieces read back over junk. -/
def sout0_B_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : ¬cond0_1 i)
    (x0 : Vec F S1024x4096 .bf16) (xs0 : Vec F S64x128 .bf16) : Vec F S64x128 .bf16 :=
  VS0_0.read (Elt F) (VS0_0.writes (Elt F) VS0_0.junk (kernelRun0_B c i arg1 harg1 arg2 harg2 arg3 harg3 arg4 harg4 arg5 harg5 arg6 harg6 hc0 hc1 x0 xs0).1)

/-- Case C's pieces for scratch `arg5`, which the kernel carries between points, cover it: 1 piece of `S64x128` tiling it (Lib/Ring.lean `Piece.tiledL`). -/
theorem scover0_C_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : cond0_1 i)
    (x0 : Vec F S1024x4096 .bf16) (xs0 : Vec F S64x128 .bf16) (y : S64x128.Idx) :
    ∃ pc ∈ (kernelRun0_C c i arg1 harg1 arg2 harg2 arg3 harg3 arg4 harg4 arg5 harg5 arg6 harg6 hc0 hc1 x0 xs0).1, y ∈ pc.1.set :=
  View.cover_of_tiledL (kernelRun0_C c i arg1 harg1 arg2 harg2 arg3 harg3 arg4 harg4 arg5 harg5 arg6 harg6 hc0 hc1 x0 xs0).1 S64x128.size (by sl_kernel_rfl) y

/-- What case C leaves in scratch `arg5`: its pieces read back over junk. -/
def sout0_C_0 (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0_0 i) (hc1 : cond0_1 i)
    (x0 : Vec F S1024x4096 .bf16) (xs0 : Vec F S64x128 .bf16) : Vec F S64x128 .bf16 :=
  VS0_0.read (Elt F) (VS0_0.writes (Elt F) VS0_0.junk (kernelRun0_C c i arg1 harg1 arg2 harg2 arg3 harg3 arg4 harg4 arg5 harg5 arg6 harg6 hc0 hc1 x0 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x128 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩)
  | n + 1, hn =>
    if h0 : (n + 1) % 14 = 0 then
      if h1 : (n + 1) % 14 = 13 then
        False.elim (by have hN : n + 1 < 14 := lt_of_lt_of_eq hn (show cfg0.N = 14 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩)
    else
      if h1 : (n + 1) % 14 = 13 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn))

/-- `outsAt0` at a point of case A: that case's contents. -/
theorem outsAt0_A (c : Dev nD) (t : Fin cfg0.N) (h0 : t.val % 14 = 0) (h1 : ¬t.val % 14 = 13) :
    outsAt0 m c t.val t.isLt = sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : ¬t.val % 14 = 13) :
    outsAt0 m c t.val t.isLt = sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 14 = 0) (h1 : t.val % 14 = 13) :
    outsAt0 m c t.val t.isLt = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (1, 2, 3): nothing reads what the kernel leaves in them, so nothing
    of it is named (Lib/Pipeline/Dat.lean `Dat.toRForget`). -/
def forgets0 : Fin 4 → Bool := fun w => w.val == 1 || w.val == 2 || w.val == 3

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (∃ d, owns (c : Thread nD τ) (ms0_1 t) fullShare d)
    ∗ (∃ d, owns (c : Thread nD τ) (ms0_2 t) fullShare d)
    ∗ (∃ d, owns (c : Thread nD τ) (ms0_3 t) fullShare d))

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t)).2 Set.univ _)
        isplitl [H0]; · iexact H0
        isplitl [H1]; · iexists _; iexact H1
        isplitl [H2]; · iexists _; iexact H2
        isplitl [H3]; · iexists _; iexact H3
        isplitl [HS0]; · iexact HS0
        isplitl [HS1]; · iexact HS1
        iintro ⟨H0, H1, H2, H3, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _)
            iexact HS1
          iexact Hg
        isplitl [Ho]; · iexact Ho
        isplitl [H0]; · iexact H0
        isplitl [H1]; · iexact H1
        isplitl [H2]; · iexact H2
        iexact H3
      · exfalso; have hN : t.val < 14 := lt_of_lt_of_eq t.isLt (show cfg0.N = 14 from N_0); omega
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      by_cases hz : t.val = 0
      · exfalso; have hN : t.val < 14 := lt_of_lt_of_eq t.isLt (show cfg0.N = 14 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) _).2 Set.univ _)
        isplitl [H0]; · iexact H0
        isplitl [H1]; · iexists _; iexact H1
        isplitl [H2]; · iexists _; iexact H2
        isplitl [H3]; · iexists _; iexact H3
        isplitl [HS0]; · iexact HS0
        isplitl [HS1]; · iexact HS1
        iintro ⟨H0, H1, H2, H3, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _)
            iexact HS1
          iexact Hg
        isplitl [Ho]; · iexact Ho
        isplitl [H0]; · iexact H0
        isplitl [H1]; · iexact H1
        isplitl [H2]; · iexact H2
        iexact H3
    · rw [show (dats m 0 c).leavesExact 0 t = owns (c : Thread nD τ) (ms0_0 t) fullShare ((dats m 0 c).after 0 t) from by
      unfold Dat.leavesExact; rw [liveAt0_0 t], after0_0]
      by_cases hz : t.val = 0
      · exfalso; have hN : t.val < 14 := lt_of_lt_of_eq t.isLt (show cfg0.N = 14 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) _).2 Set.univ _)
        isplitl [H0]; · iexact H0
        isplitl [H1]; · iexists _; iexact H1
        isplitl [H2]; · iexists _; iexact H2
        isplitl [H3]; · iexists _; iexact H3
        isplitl [HS0]; · iexact HS0
        isplitl [HS1]; · iexact HS1
        iintro ⟨H0, H1, H2, H3, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _)
            iexact HS1
          iexact Hg
        isplitl [Ho]; · iexact Ho
        isplitl [H0]; · iexact H0
        isplitl [H1]; · iexact H1
        isplitl [H2]; · iexact H2
        iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 1, 2, 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- The frame: from any memory with zero counters every run ends, the weight is unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Amax.Kept

end
-- ==== Proof.Mat.Kernel.lean ====
/-
  What the matrix-product kernel leaves in its result array, at the ideal instance: entry (r, n) is the product of row r
  of the activations with row n of the dequantised weight, times the tensor scale.
-/
module

public import proofs.«01_k».proof.Proof.Gen.KernelIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mat

open Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

/-- One block: entry (p, q) is row p of the activation block times row q of the weight block, times the scale. -/
theorem pay_apply (a b : Vec Ideal S1024x4096 .bf16) (s : Elt Ideal .f32) (p q : Fin 1024) :
    k0_pay1 (F := Ideal) a b s (ix2 p q) = (∑ k : Fin 4096, a (ix2 p k) * b (ix2 q k)) * s := by
  pointwise [k0_pay1]

/-- What the body leaves in the result's buffer: the block product of the three inputs. -/
theorem out_A (c : Dev nD) (i : grid0.Coords) (a2 : Memref sig .tc .smem S1 .f32) (h2 : a2.IsWhole)
    (a3 : Memref sig .tc .vmem S1024x4096 .bf16) (h3 : a3.IsWhole) (a4 : Memref sig .tc .vmem S1024x4096 .bf16) (h4 : a4.IsWhole)
    (a5 : Memref sig .tc .vmem S1024x1024 .bf16) (h5 : a5.IsWhole)
    (x0 : Vec Ideal S1 .f32) (x1 x2 : Vec Ideal S1024x4096 .bf16) :
    out0_A_3 (F := Ideal) c i a2 h2 a3 h3 a4 h4 a5 h5 x0 x1 x2 = k0_pay1 x1 x2 (x0 (ix1 0)) := by
  unfold out0_A_3
  rw [View.read_writes_eq_canon _ _ _ (cover0_A_3 c i a2 h2 a3 h3 a4 h4 a5 h5 x0 x1 x2)]
  unfold kernelRun0_A
  dsimp only
  rw [View.canon_unit_zero hz2]
  simp only [View.readAt_eq_ld, h2.read_unread, h3.read_unread, h4.read_unread, View.ld_unit_zero (S := S1024x4096) hz2, View.ld_unit_zero (S := S1) hz1]
  sl_unfold_words
  simp only [View.readAt_eq_ld, h2.read_unread, View.ld_unit_zero (S := S1) hz1]
  refine congrArg (k0_pay1 x1 x2) ?_
  show x0 _ = x0 _
  exact congrArg x0 (funext fun a => Fin.ext (by match a with | ⟨0, _⟩ => rfl))

/-- The function both programs compute: activations times the dequantised weight transposed, times the tensor scale. -/
def prod (s : Vec Ideal S1 .f32) (x : Vec Ideal S9216x4096 .bf16) (w : Vec Ideal S14336x4096 .bf16) : Vec Ideal S9216x14336 .bf16 :=
  fun i => (∑ k : Fin 4096, x (ix2 (i 0) k) * w (ix2 (i 1) k)) * s (ix1 0)

/-- The blocks' offsets at each grid point, all windows. -/
theorem offs : ∀ t : Fin grid0.N,
    (win0_1.index t 0 * win0_1.size 0 = t.val % 9 * 1024 ∧ win0_1.index t 1 * win0_1.size 1 = 0)
    ∧ (win0_2.index t 0 * win0_2.size 0 = t.val / 9 * 1024 ∧ win0_2.index t 1 * win0_2.size 1 = 0)
    ∧ (win0_3.index t 0 * win0_3.size 0 = t.val % 9 * 1024 ∧ win0_3.index t 1 * win0_3.size 1 = t.val / 9 * 1024)
    ∧ (win0_3.xsize (grid0.coords t) 0 = 1024 ∧ win0_3.xsize (grid0.coords t) 1 = 1024)
    ∧ win0_0.index t 0 * win0_0.size 0 = 0 := by
  decide +kernel

variable (m : (ℓ : Loc nD τ sig) → Buf (Elt Ideal) ℓ) (ρ : Dev nD → PrngReg)

theorem lt_t (t : Fin cfg0.N) : t.val < 126 := lt_of_lt_of_eq t.isLt Gen.N_0

/-- The activation block of point `t` is rows `1024 (t mod 9) …` of the activations. -/
theorem iblk1_apply (c : Dev nD) (t : Fin cfg0.N) (p : Fin 1024) (k : Fin 4096)
    (h : t.val % 9 * 1024 + p.val < 9216) :
    iblk m c 1 t (ix2 p k) = (V m c main_v0 : Vec Ideal S9216x4096 .bf16) (ix2 ⟨t.val % 9 * 1024 + p.val, h⟩ k) := by
  have e := (offs t).1
  show (V m c main_v0 : Vec Ideal S9216x4096 .bf16) _ = _
  congr 1
  funext a
  apply Fin.ext
  match a with
  | ⟨0, _⟩ =>
    show win0_1.index t 0 * win0_1.size 0 + 1 * p.val = t.val % 9 * 1024 + p.val
    rw [e.1]; omega
  | ⟨1, _⟩ =>
    show win0_1.index t 1 * win0_1.size 1 + 1 * k.val = k.val
    rw [e.2]; omega

/-- The weight block of point `t` is rows `1024 (t / 9) …` of the dequantised weight. -/
theorem iblk2_apply (c : Dev nD) (t : Fin cfg0.N) (q : Fin 1024) (k : Fin 4096)
    (h : t.val / 9 * 1024 + q.val < 14336) :
    iblk m c 2 t (ix2 q k) = (V m c main_arg2 : Vec Ideal S14336x4096 .bf16) (ix2 ⟨t.val / 9 * 1024 + q.val, h⟩ k) := by
  have e := (offs t).2.1
  show (V m c main_arg2 : Vec Ideal S14336x4096 .bf16) _ = _
  congr 1
  funext a
  apply Fin.ext
  match a with
  | ⟨0, _⟩ =>
    show win0_2.index t 0 * win0_2.size 0 + 1 * q.val = t.val / 9 * 1024 + q.val
    rw [e.1]; omega
  | ⟨1, _⟩ =>
    show win0_2.index t 1 * win0_2.size 1 + 1 * k.val = k.val
    rw [e.2]; omega

/-- The scale's block is the scale. -/
theorem iblk0_apply (c : Dev nD) (t : Fin cfg0.N) :
    iblk m c 0 t (ix1 0) = (V m c main_arg0 : Vec Ideal S1 .f32) (ix1 0) := by
  have e := (offs t).2.2.2.2
  show (V m c main_arg0 : Vec Ideal S1 .f32) _ = _
  congr 1
  funext a
  apply Fin.ext
  match a with
  | ⟨0, _⟩ =>
    show win0_0.index t 0 * win0_0.size 0 + 1 * 0 = 0
    rw [e]

/-- What the result array is shown to hold. -/
abbrev out (c : Dev nD) : Buf (Elt Ideal) ((c : Thread nD τ).loc main_v1) :=
  prod (V m c main_arg0) (V m c main_v0) (V m c main_arg2)

/-- Cutting a whole block reads it where it is. -/
theorem cut_apply (t : Fin cfg0.N) (X : Vec Ideal S1024x1024 .bf16) (j : ((cfg0.win 3).xblock (grid0.coords t)).Idx)
    (hj0 : (j 0 : Nat) < 1024) (hj1 : (j 1 : Nat) < 1024) :
    (cfg0.win 3).cut (grid0.coords t) X j = X (ix2 ⟨(j 0 : Nat), hj0⟩ ⟨(j 1 : Nat), hj1⟩) :=
  congrArg X (funext fun a => Fin.ext (by
    match a with
    | ⟨0, _⟩ => rfl
    | ⟨1, _⟩ => rfl))

/-- What point `t` writes back is its block of the whole product. -/
theorem flushed_eq (c : Dev nD) (t : Fin cfg0.N) :
    (dats m 0 c).flushed 3 t = ((cfg0.win 3).blk t).view.read (Elt Ideal) (out m c) := by
  rw [Value.flushed3_A]
  funext j
  have hj0 : (j 0 : Nat) < 1024 := (j 0).isLt
  have hj1 : (j 1 : Nat) < 1024 := (j 1).isLt
  have ht := lt_t t
  have e := (offs t).2.2.1
  have h0 : t.val % 9 * 1024 + (j 0 : Nat) < 9216 := by omega
  have h1 : t.val / 9 * 1024 + (j 1 : Nat) < 14336 := by omega
  have hR : ((cfg0.win 3).blk t).view.read (Elt Ideal) (out m c) j
      = prod (V m c main_arg0) (V m c main_v0) (V m c main_arg2) (ix2 ⟨t.val % 9 * 1024 + (j 0 : Nat), h0⟩ ⟨t.val / 9 * 1024 + (j 1 : Nat), h1⟩) := by
    refine congrArg (prod (V m c main_arg0) (V m c main_v0) (V m c main_arg2)) ?_
    funext a
    apply Fin.ext
    match a with
    | ⟨0, _⟩ =>
      show win0_3.index t 0 * win0_3.size 0 + 1 * (j 0 : Nat) = t.val % 9 * 1024 + (j 0 : Nat)
      rw [e.1]; omega
    | ⟨1, _⟩ =>
      show win0_3.index t 1 * win0_3.size 1 + 1 * (j 1 : Nat) = t.val / 9 * 1024 + (j 1 : Nat)
      rw [e.2]; omega
  rw [cut_apply t _ j hj0 hj1, hR, out_A, pay_apply, iblk0_apply]
  unfold prod
  refine congrArg (· * _) (Finset.sum_congr rfl fun k _ => ?_)
  exact (congrArg₂ (· * ·) (iblk1_apply m c t ⟨(j 0 : Nat), hj0⟩ k h0) (iblk2_apply m c t ⟨(j 1 : Nat), hj1⟩ k h1))

/-- An index of the result array is in point `t`'s block. -/
theorem mem_blk (t : Fin cfg0.N) (i : S9216x14336.Idx) :
    i ∈ ((cfg0.win 3).blk t).view.set ↔
      (t.val % 9 * 1024 ≤ (i 0 : Nat) ∧ (i 0 : Nat) < t.val % 9 * 1024 + 1024)
      ∧ (t.val / 9 * 1024 ≤ (i 1 : Nat) ∧ (i 1 : Nat) < t.val / 9 * 1024 + 1024) := by
  show i ∈ ((View.whole main_v1).slice (win0_3.rect t)).set ↔ _
  rw [View.set_slice_whole, Rect.mem_set_unit]
  have e := (offs t).2.2.1
  have e' := (offs t).2.2.2.1
  refine ⟨fun h => ⟨?_, ?_⟩, fun h a => ?_⟩
  · have : win0_3.index t 0 * win0_3.size 0 ≤ (i 0 : Nat) ∧ (i 0 : Nat) < win0_3.index t 0 * win0_3.size 0 + win0_3.xsize (grid0.coords t) 0 := h 0
    rw [e.1, e'.1] at this; exact this
  · have : win0_3.index t 1 * win0_3.size 1 ≤ (i 1 : Nat) ∧ (i 1 : Nat) < win0_3.index t 1 * win0_3.size 1 + win0_3.xsize (grid0.coords t) 1 := h 1
    rw [e.2, e'.2] at this; exact this
  · match a with
    | ⟨0, _⟩ =>
      show win0_3.index t 0 * win0_3.size 0 ≤ (i 0 : Nat) ∧ (i 0 : Nat) < win0_3.index t 0 * win0_3.size 0 + win0_3.xsize (grid0.coords t) 0
      rw [e.1, e'.1]; exact h.1
    | ⟨1, _⟩ =>
      show win0_3.index t 1 * win0_3.size 1 ≤ (i 1 : Nat) ∧ (i 1 : Nat) < win0_3.index t 1 * win0_3.size 1 + win0_3.xsize (grid0.coords t) 1
      rw [e.2, e'.2]; exact h.2

/-- The result array ends holding the whole product. -/
theorem final (c : Dev nD) : (dats m 0 c).arrAt 3 cfg0.N = out m c :=
  (dats m 0 c).arrAt_eq_of_cover 3 (out m c) (fun t _ => flushed_eq m c t) fun i => by
    have h0 : (i 0 : Nat) < 9216 := (i 0).isLt
    have h1 : (i 1 : Nat) < 14336 := (i 1).isLt
    have hlt : (i 1 : Nat) / 1024 * 9 + (i 0 : Nat) / 1024 < 126 := by omega
    refine ⟨⟨(i 1 : Nat) / 1024 * 9 + (i 0 : Nat) / 1024, by show _ < grid0.N; rw [Gen.N_0]; exact hlt⟩, flush0_3 _, ?_⟩
    rw [mem_blk]
    dsimp only
    omega

/-- The run read: the result array holds the product of the arguments, which are unchanged. -/
theorem run : θ_run defs (onTc (τ := τ) (main (F := Ideal))) ⟨m, fun _ => 0, ρ⟩ fun r => ∀ c : Dev nD,
      r.2.mem ((c : Thread nD τ).loc main_v1)
        = prod (m ((c : Thread nD τ).loc main_arg0))
            (shapeCast S9216x4096 (m ((c : Thread nD τ).loc main_arg1) : Vec Ideal S4x2304x4096 .bf16) Facts₀.shapeCasts_S4x2304x4096_S9216x4096)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      refine ⟨(h c).1.trans ((final m c).trans ?_), (h c).2⟩
      have e0 := V_main_arg0 m c
      have e2 := V_main_arg2 m c
      have e1 : (V m c main_v0 : Vec Ideal S9216x4096 .bf16) = shapeCast S9216x4096 (m ((c : Thread nD τ).loc main_arg1) : Vec Ideal S4x2304x4096 .bf16) Facts₀.shapeCasts_S4x2304x4096_S9216x4096 := by
        unfold V hostOps0
        after_results <;> rfl
      unfold out
      rw [e0, e1, e2])
    (Value.run_blocks m ρ)

end Cert.KernelIdeal.Mat

end
-- ==== Proof.Mat.Reference.lean ====
/-
  What the reference computes: the product over the even columns plus the product over the odd columns, which is the
  product over all columns, times the tensor scale.
-/
module

public import proofs.«01_k».proof.Proof.Mat.Kernel
public import proofs.«01_k».proof.Proof.Gen.ReferenceIdeal.Run

@[expose] public section

set_option maxRecDepth 16384

noncomputable section

open Idealize.ShloMosaic Idealize.ShloMosaic.TcCoe Idealize.SL.Sem
open scoped BigOperators

namespace Cert.ReferenceIdeal.Mat

open Cert.ReferenceIdeal Cert.ReferenceIdeal.Gen

/-- A sum over `2 n` positions is the sum over the even ones plus the sum over the odd ones. -/
theorem sum_even_odd {M : Type} [AddCommMonoid M] (n : ℕ) (f : ℕ → M) :
    ∑ k : Fin (2 * n), f k.val = (∑ k : Fin n, f (2 * k.val)) + ∑ k : Fin n, f (2 * k.val + 1) := by
  rw [Fin.sum_univ_eq_sum_range, Fin.sum_univ_eq_sum_range (fun k => f (2 * k)), Fin.sum_univ_eq_sum_range (fun k => f (2 * k + 1))]
  induction n with
  | zero => simp
  | succ n ih =>
    rw [show 2 * (n + 1) = 2 * n + 1 + 1 by ring, Finset.sum_range_succ, Finset.sum_range_succ, Finset.sum_range_succ,
      Finset.sum_range_succ, ih]
    abel

/-- The reference's composed term of its arguments. -/
abbrev term (s : Vec Ideal S1 .f32) (x : Vec Ideal S4x2304x4096 .bf16) (w : Vec Ideal S14336x4096 .bf16) : Vec Ideal S9216x14336 .bf16 :=
  shapeCast _ (truncf (F := Ideal) .bf16 (mulf (F := Ideal) (addf (F := Ideal) (Host.dotGeneral (φ₁ := .bf16) (φ₂ := .bf16) dot_S4x2304x2048_S14336x2048_S4x2304x14336_2_1_01_0_n_n none (Host.slice S4x2304x2048 ![0, 0, 0] ![1, 1, 2] x slicesBy_S4x2304x4096_S4x2304x2048_0s1_0s1_0s2) (Host.slice S14336x2048 ![0, 0] ![1, 2] w slicesBy_S14336x4096_S14336x2048_0s1_0s2)) (Host.dotGeneral (φ₁ := .bf16) (φ₂ := .bf16) dot_S4x2304x2048_S14336x2048_S4x2304x14336_2_1_01_0_n_n none (Host.slice S4x2304x2048 ![0, 0, 1] ![1, 1, 2] x slicesBy_S4x2304x4096_S4x2304x2048_0s1_0s1_1s2) (Host.slice S14336x2048 ![0, 1] ![1, 2] w slicesBy_S14336x4096_S14336x2048_0s1_1s2))) (broadcastInDim S4x2304x14336 ![] bcast_S_S4x2304x14336 (shapeCast _ s shapeCasts_S1_S_))) bitsLt_bf16_f32) shapeCasts_S4x2304x14336_S9216x14336

/-- The reference's term is the product of the kernel's arguments. -/
theorem term_eq (s : Vec Ideal S1 .f32) (x : Vec Ideal S4x2304x4096 .bf16) (w : Vec Ideal S14336x4096 .bf16)
    (h : S4x2304x4096.ShapeCasts Cert.KernelIdeal.S9216x4096) :
    Cert.KernelIdeal.Mat.prod s (shapeCast (s := S4x2304x4096) Cert.KernelIdeal.S9216x4096 x h) w = term s x w := by
  funext j
  idx_vars j
  unfold Cert.KernelIdeal.Mat.prod term
  pointwise
  refine congrArg (· * s (Idealize.ShloMosaic.ix1 0)) ?_
  have e := sum_even_odd (M := EReal) 2048 fun k => if hk : k < 4096 then
    x (Idealize.ShloMosaic.ix3 ⟨j0.val / 2304, by omega⟩ ⟨j0.val % 2304, by omega⟩ ⟨k, hk⟩) * w (Idealize.ShloMosaic.ix2 j1 ⟨k, hk⟩) else 0
  refine Eq.trans (Finset.sum_congr rfl fun k _ => ?_) (e.trans (congrArg₂ (· + ·) (Finset.sum_congr rfl fun k _ => ?_)
    (Finset.sum_congr rfl fun k _ => ?_)))
  · have hk : k.val < 4096 := k.isLt
    exact Eq.symm (dif_pos hk)
  · have hk : 2 * k.val < 4096 := by have := k.isLt; omega
    exact dif_pos hk
  · have hk : 1 + 2 * k.val < 4096 := by have := k.isLt; omega
    rw [Nat.add_comm]
    exact dif_pos hk

end Cert.ReferenceIdeal.Mat

end
-- ==== Proof.Scales.RunA.lean ====
/- The run of the kernel body at the first point, which clears the running maximum, with what it stores in each buffer as a list of pieces. -/
module

public import proofs.«01_k».proof.Proof.Gen.AmaxIdeal.Launch
public import proofs.«01_k».proof.Proof.Gen.AmaxIdeal.Skeleton
public import proofs.«01_k».proof.Proof.Gen.AmaxIdeal.Points
public import proofs.«01_k».proof.Proof.Gen.AmaxIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AmaxIdeal.Scales

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition at the grid coordinates `i`: the first point. -/
abbrev cond0 (i : grid0.Coords) : Prop := (Scalar.cmpi .ne (Scalar.extui (Scalar.cmpi .eq (BitVec.ofNat 32 (i 0).val) 0#32)) 0#32) = 1#1

/-- The body's second condition: the last point. -/
abbrev cond1 (i : grid0.Coords) : Prop := k0_cond2 i = 1#1

set_option maxHeartbeats 15176000 in
/-- What the body stores at the first point, which clears the running maximum: the pieces written to the running maximum and to the block maxima,
    with the proof that the body runs to a continuation that holds the buffers with those pieces written. -/
noncomputable def runA (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : cond0 i) (hc1 : ¬cond1 i)
    (x0 : Vec F S1024x4096 .bf16) (xs1 : Vec F S896x256 .bf16) :
    { L : List (View.Piece (Elt F) S64x128 .bf16) × List (View.Piece (Elt F) S896x256 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs1
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f L.1) ∗ arg6.view.loc (c : Thread nD τ) ↦[arg6.view.set]{fullShare} arg6.view.writes (Elt F) (harg6.unread xs1) L.2) -∗ K ⟨⟩))
          ⊢ wp frame (wpE (defs₀ (F := F)) Variants.none c none) E (cc0_block_amax i arg1 harg1 arg2 harg2 arg3 harg3 arg4 harg4 arg5 harg5 arg6 harg6) K } := by
  refine ⟨(?_, ?_), fun E K => ?run⟩
  case run =>
    dsimp only
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, ⟨%fs1, %hfs1, HS1⟩, Hk⟩
    obtain rfl := harg1.eq_unread hf0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [HS0]; · iexists _; iexact HS0
    iexact HS1

end Cert.AmaxIdeal.Scales

end
-- ==== Proof.Scales.Chunk.lean ====
/- What the kernel computes of one 128-column chunk of a weight block, as functions of the loaded rows, and what that is at the ideal values. -/
module

public import Idealize.ShloMosaic.PureOps
public import Idealize.ShloMosaic.PureOps.Ideal
public import Idealize.ShloMosaic.PureOps.Ideal.Laws
public import Idealize.ShloMosaic.Lib.Pointwise.Tactic
public import Idealize.ShloMosaic.Lib.Pointwise
public import Idealize.ShloMosaic.Lib.Pipeline.Value

@[expose] public section

noncomputable section

namespace Cert.Scales

open Idealize.ShloMosaic

variable {F : FTy → Type} [FloatOps F]

abbrev S16x128 : Shape := ⟨2, ![16, 128]⟩
abbrev S8x2x128 : Shape := ⟨3, ![8, 2, 128]⟩
abbrev S8x128 : Shape := ⟨2, ![8, 128]⟩
abbrev S64x128 : Shape := ⟨2, ![64, 128]⟩
abbrev S64x128x1 : Shape := ⟨3, ![64, 128, 1]⟩

/-- The magnitudes of sixteen loaded rows. -/
def mag (x : Vec F S16x128 .bf16) : FVec F S16x128 .f32 := absf (extf .f32 x (by decide))

/-- Where the row number has the bit `d` clear. -/
def low (d : BitVec 32) : IVec S16x128 1 :=
  cmpi .eq (andi (iota .tc S16x128 32 [0] (by decide)) (broadcast S16x128 d)) (broadcast S16x128 0#32)

/-- One level of the tree of maxima: rows of `a` at a clear bit `d`, rows of `b` at a set one, each with its partner. -/
def step (d e : BitVec 32) (a b : FVec F S16x128 .f32) : FVec F S16x128 .f32 :=
  maximumf (select (low d) a (dynamicRotate 0 d none b (by decide))) (select (low d) (dynamicRotate 0 e none a (by decide)) b)

/-- The tree: row `2 r` or `2 r + 1` has half of the rows of block `r`. -/
def tree (x0 x1 x2 x3 x4 x5 x6 x7 : FVec F S16x128 .f32) : FVec F S16x128 .f32 :=
  step 2#32 14#32 (step 4#32 12#32 (step 8#32 8#32 x0 x4) (step 8#32 8#32 x2 x6))
    (step 4#32 12#32 (step 8#32 8#32 x1 x5) (step 8#32 8#32 x3 x7))

/-- The maxima of eight blocks of sixteen rows, one row for each block. -/
def group (x0 x1 x2 x3 x4 x5 x6 x7 : FVec F S16x128 .f32) : FVec F S8x128 .f32 :=
  multiReduction .maximumf [1] S8x128 (shapeCast S8x2x128 (tree x0 x1 x2 x3 x4 x5 x6 x7) (by decide)) 0xFF800000#32 (by decide) (.inl rfl) rfl

theorem stack_fact : Shape.Concatenates [S8x128, S8x128, S8x128, S8x128, S8x128, S8x128, S8x128, S8x128] S64x128 0 := by decide

/-- Eight groups below one another. -/
def stack (g0 g1 g2 g3 g4 g5 g6 g7 : FVec F S8x128 .f32) : FVec F S64x128 .f32 :=
  concatenate S64x128 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact

/-- The lane numbers. -/
def lane : IVec S64x128 32 := iota .tc S64x128 32 [1] (by decide)

/-- An index as the gather takes it: a negative one counts from the end. -/
def wrap (i : IVec S64x128 32) : IVec S64x128 32 :=
  shapeCast S64x128 (shapeCast S64x128x1 (select (cmpi .slt i (broadcast S64x128 0#32)) (addi i (broadcast S64x128 128#32)) i) (by decide)) (by decide)

/-- Each lane's maximum with the lane whose number differs in the bit `d`. -/
def pair (d : BitVec 32) (m : FVec F S64x128 .bf16) : FVec F S64x128 .bf16 :=
  maximumf m (truncf .bf16 (dynamicGather 1 (extf .f32 m (by decide)) (wrap (xori lane (broadcast S64x128 d)))) (by decide))

/-- Each lane's maximum over its sixteen lanes. -/
def lanes (v : FVec F S64x128 .f32) : FVec F S64x128 .bf16 :=
  pair 8#32 (pair 4#32 (pair 2#32 (pair 1#32 (truncf .bf16 v (by decide)))))

/-- The block maxima of a chunk at every lane, from its sixty-four times sixteen rows of magnitudes. -/
def chunk (X : Fin 64 → FVec F S16x128 .f32) : FVec F S64x128 .bf16 :=
  lanes (stack (group (X 0) (X 1) (X 2) (X 3) (X 4) (X 5) (X 6) (X 7))
    (group (X 8) (X 9) (X 10) (X 11) (X 12) (X 13) (X 14) (X 15))
    (group (X 16) (X 17) (X 18) (X 19) (X 20) (X 21) (X 22) (X 23))
    (group (X 24) (X 25) (X 26) (X 27) (X 28) (X 29) (X 30) (X 31))
    (group (X 32) (X 33) (X 34) (X 35) (X 36) (X 37) (X 38) (X 39))
    (group (X 40) (X 41) (X 42) (X 43) (X 44) (X 45) (X 46) (X 47))
    (group (X 48) (X 49) (X 50) (X 51) (X 52) (X 53) (X 54) (X 55))
    (group (X 56) (X 57) (X 58) (X 59) (X 60) (X 61) (X 62) (X 63)))

/-- The word `8`, as a divisor that may not be zero. -/
def eight : BitVec 32 := Scalar.select (Scalar.cmpi .eq 8#32 0#32) 1#32 8#32

/-- The lane number modulo eight. -/
def mod8 : IVec S64x128 32 :=
  select (andi (xori (cmpi .slt (remsi lane (broadcast S64x128 eight)) (broadcast S64x128 0#32))
      (broadcastTo S64x128 (broadcast S64x128 (Scalar.cmpi .slt eight 0#32)) (by decide)))
      (cmpi .ne (remsi lane (broadcast S64x128 eight)) (broadcast S64x128 0#32)))
    (addi (remsi lane (broadcast S64x128 eight)) (broadcast S64x128 eight)) (remsi lane (broadcast S64x128 eight))

/-- The lane number divided by eight. -/
def div8 : IVec S64x128 32 :=
  select (andi (cmpi .ne (subi (extui 32 (cmpi .sgt lane (broadcast S64x128 0#32)) (by decide)) (extui 32 (cmpi .slt lane (broadcast S64x128 0#32)) (by decide)))
      (broadcast S64x128 (Scalar.subi (Scalar.extui (Scalar.cmpi .sgt 8#32 0#32)) (Scalar.extui (Scalar.cmpi .slt 8#32 0#32)))))
      (cmpi .ne (remsi lane (broadcast S64x128 8#32)) (broadcast S64x128 0#32)))
    (subi (divsi lane (broadcast S64x128 8#32)) (broadcast S64x128 1#32)) (divsi lane (broadcast S64x128 8#32))

/-- Lane `l` has what lane `16 (l mod 8)` had. -/
def spread (m : FVec F S64x128 .bf16) : FVec F S64x128 .f32 :=
  dynamicGather 1 (extf .f32 m (by decide)) (wrap (muli mod8 (broadcast S64x128 16#32)))

/-- Put a chunk's eight block maxima at the lanes `8 k … 8 k + 7`. -/
def place (k : BitVec 32) (m : FVec F S64x128 .bf16) (prev : FVec F S64x128 .f32) : FVec F S64x128 .f32 :=
  select (cmpi .eq div8 (broadcast S64x128 k)) (spread m) prev

/-- Nothing placed. -/
def none0 : FVec F S64x128 .f32 := broadcast S64x128 (Scalar.ofBits .f32 0x00000000#32)

/-- The running maximum after the thirty-two chunks. -/
def runMaxRaw (v : FVec F S64x128 .bf16) (M : Fin 32 → FVec F S64x128 .bf16) : FVec F S64x128 .bf16 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf v (M 0)) (M 1)) (M 2)) (M 3)) (M 4)) (M 5)) (M 6)) (M 7)) (M 8)) (M 9)) (M 10)) (M 11)) (M 12)) (M 13)) (M 14)) (M 15)) (M 16)) (M 17)) (M 18)) (M 19)) (M 20)) (M 21)) (M 22)) (M 23)) (M 24)) (M 25)) (M 26)) (M 27)) (M 28)) (M 29)) (M 30)) (M 31)

/-- The running maximum in the shape it is stored in. -/
def runMax (v : FVec F S64x128 .bf16) (M : Fin 32 → FVec F S64x128 .bf16) : FVec F S64x128 .bf16 :=
  shapeCast S64x128 (runMaxRaw v M) (by decide)

/-- Sixteen chunks' block maxima, eight lanes for each chunk. -/
def gather (M : Fin 16 → FVec F S64x128 .bf16) : FVec F S64x128 .bf16 :=
  shapeCast S64x128 (truncf .bf16 (place 15#32 (M 15) (place 14#32 (M 14) (place 13#32 (M 13) (place 12#32 (M 12) (place 11#32 (M 11) (place 10#32 (M 10) (place 9#32 (M 9) (place 8#32 (M 8) (place 7#32 (M 7) (place 6#32 (M 6) (place 5#32 (M 5) (place 4#32 (M 4) (place 3#32 (M 3) (place 2#32 (M 2) (place 1#32 (M 1) (place 0#32 (M 0) none0)))))))))))))))) (by decide)) (by decide)

end Cert.Scales

end
-- ==== Proof.Scales.BridgeBase.lean ====
/- The pieces that the runs of the kernel body store, as functions of the chunks' functions. -/
module

public import proofs.«01_k».proof.Proof.Scales.RunA
public import proofs.«01_k».proof.Proof.Scales.Chunk

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic

variable {F : FTy → Type} [FloatOps F]

theorem inb_ld (r : Fin 64) (k : Fin 32) : ∀ a, (![16 * r.val, 128 * k.val] : Fin 2 → ℕ) a + Cert.Scales.S16x128.size a ≤ S1024x4096.size a := by
  intro a; fin_cases a
  · show 16 * r.val + 16 ≤ 1024; omega
  · show 128 * k.val + 128 ≤ 4096; omega

/-- The magnitudes of rows `16 r …` of column chunk `k` of the weight block. -/
def ld (arg1 : Memref sig .tc .vmem S1024x4096 .bf16) (harg1 : arg1.IsWhole) (x0 : Vec F S1024x4096 .bf16) (k : Fin 32) (r : Fin 64) :
    FVec F Cert.Scales.S16x128 .f32 :=
  mag (View.readAt (Elt F) arg1.view (Rect.unit (s := S1024x4096) ![16 * r.val, 128 * k.val] Cert.Scales.S16x128.size (inb_ld r k)).toLoadRect (harg1.unread x0))

/-- The block maxima of column chunk `k`. -/
def ck (arg1 : Memref sig .tc .vmem S1024x4096 .bf16) (harg1 : arg1.IsWhole) (x0 : Vec F S1024x4096 .bf16) (k : Fin 32) : FVec F Cert.Scales.S64x128 .bf16 :=
  chunk (ld arg1 harg1 x0 k)

/-- The pieces written to the block maxima: both halves of the columns. -/
def halfPieces (i : grid0.Coords) (M : Fin 32 → FVec F Cert.Scales.S64x128 .bf16) : List (View.Piece (Elt F) S896x256 .bf16) :=
  [⟨Rect.unit (k0_off2 i) S64x128.size (k0_off2_inb i), gather fun k => M ⟨k.val + 16, by omega⟩⟩,
    ⟨Rect.unit (k0_off1 i) S64x128.size (k0_off1_inb i), gather fun k => M ⟨k.val, by omega⟩⟩]

end Cert.AmaxIdeal.Scales

end
-- ==== Proof.Scales.BridgeA.lean ====
/- What the run of the kernel body at the first point stores, in terms of the chunks' functions. -/
module

public import proofs.«01_k».proof.Proof.Scales.RunA
public import proofs.«01_k».proof.Proof.Scales.BridgeBase

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic

variable {F : FTy → Type} [FloatOps F]

theorem runA_eq (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : cond0 i) (hc1 : ¬cond1 i) (x0 : Vec F S1024x4096 .bf16) (xs1 : Vec F S896x256 .bf16) :
    (runA c i arg1 harg1 arg2 harg2 arg3 harg3 arg4 harg4 arg5 harg5 arg6 harg6 hc0 hc1 x0  xs1).1 = ([⟨Rect.unit ![0, 0] S64x128.size inb_S64x128_S64x128_0_0, runMax (View.readCov (Val := Elt F) arg5.view [⟨Rect.unit ![0, 0] S64x128.size inb_S64x128_S64x128_0_0, k0_pay4 (F := F)⟩] (Rect.unit ![0, 0] S64x128.size inb_S64x128_S64x128_0_0).toLoadRect) (ck arg1 harg1 x0)⟩, ⟨Rect.unit ![0, 0] S64x128.size inb_S64x128_S64x128_0_0, k0_pay4 (F := F)⟩],
      halfPieces i (ck arg1 harg1 x0)) := by
  sl_kernel_rfl

end Cert.AmaxIdeal.Scales

end
-- ==== Proof.Scales.RunB.lean ====
/- The run of the kernel body at a middle point, with what it stores in each buffer as a list of pieces. -/
module

public import proofs.«01_k».proof.Proof.Gen.AmaxIdeal.Launch
public import proofs.«01_k».proof.Proof.Gen.AmaxIdeal.Skeleton
public import proofs.«01_k».proof.Proof.Gen.AmaxIdeal.Points
public import proofs.«01_k».proof.Proof.Gen.AmaxIdeal.Frame
public import proofs.«01_k».proof.Proof.Scales.RunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AmaxIdeal.Scales

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15176000 in
/-- What the body stores at a middle point: the pieces written to the running maximum and to the block maxima,
    with the proof that the body runs to a continuation that holds the buffers with those pieces written. -/
noncomputable def runB (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0 i) (hc1 : ¬cond1 i)
    (x0 : Vec F S1024x4096 .bf16) (xs0 : Vec F S64x128 .bf16) (xs1 : Vec F S896x256 .bf16) :
    { L : List (View.Piece (Elt F) S64x128 .bf16) × List (View.Piece (Elt F) S896x256 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f L.1) ∗ arg6.view.loc (c : Thread nD τ) ↦[arg6.view.set]{fullShare} arg6.view.writes (Elt F) (harg6.unread xs1) L.2) -∗ K ⟨⟩))
          ⊢ wp frame (wpE (defs₀ (F := F)) Variants.none c none) E (cc0_block_amax i arg1 harg1 arg2 harg2 arg3 harg3 arg4 harg4 arg5 harg5 arg6 harg6) K } := by
  refine ⟨(?_, ?_), fun E K => ?run⟩
  case run =>
    dsimp only
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [HS0]; · iexists _; iexact HS0
    iexact HS1

end Cert.AmaxIdeal.Scales

end
-- ==== Proof.Scales.BridgeB.lean ====
/- What the run of the kernel body at a middle point stores, in terms of the chunks' functions. -/
module

public import proofs.«01_k».proof.Proof.Scales.RunB
public import proofs.«01_k».proof.Proof.Scales.BridgeBase

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic

variable {F : FTy → Type} [FloatOps F]

theorem runB_eq (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0 i) (hc1 : ¬cond1 i) (x0 : Vec F S1024x4096 .bf16) (xs0 : Vec F S64x128 .bf16) (xs1 : Vec F S896x256 .bf16) :
    (runB c i arg1 harg1 arg2 harg2 arg3 harg3 arg4 harg4 arg5 harg5 arg6 harg6 hc0 hc1 x0  xs0 xs1).1 = ([⟨Rect.unit ![0, 0] S64x128.size inb_S64x128_S64x128_0_0, runMax (View.readAt (Elt F) arg5.view (Rect.unit ![0, 0] S64x128.size inb_S64x128_S64x128_0_0).toLoadRect (harg5.unread xs0)) (ck arg1 harg1 x0)⟩], halfPieces i (ck arg1 harg1 x0)) := by
  sl_kernel_rfl

end Cert.AmaxIdeal.Scales

end
-- ==== Proof.Scales.RunC.lean ====
/- The run of the kernel body at the last point, which also writes the scales, with what it stores in each buffer as a list of pieces. -/
module

public import proofs.«01_k».proof.Proof.Gen.AmaxIdeal.Launch
public import proofs.«01_k».proof.Proof.Gen.AmaxIdeal.Skeleton
public import proofs.«01_k».proof.Proof.Gen.AmaxIdeal.Points
public import proofs.«01_k».proof.Proof.Gen.AmaxIdeal.Frame
public import proofs.«01_k».proof.Proof.Scales.RunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AmaxIdeal.Scales

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 15176000 in
/-- What the body stores at the last point, which also writes the scales: the pieces written to the running maximum and to the block maxima, to the block scales and to the tensor scale,
    with the proof that the body runs to a continuation that holds the buffers with those pieces written. -/
noncomputable def runC (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0 i) (hc1 : cond1 i)
    (x0 : Vec F S1024x4096 .bf16) (xs0 : Vec F S64x128 .bf16) (xs1 : Vec F S896x256 .bf16) :
    { L : List (View.Piece (Elt F) S64x128 .bf16) × List (View.Piece (Elt F) S896x256 .bf16) × List (View.Piece (Elt F) S896x256 .fp8e4m3) × List (View.Piece (Elt F) S1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ (∃ d, owns (c : Thread nD τ) arg2 fullShare d) ∗ (∃ f, arg3.view.loc (c : Thread nD τ) ↦[arg3.view.set]{fullShare} arg3.view.writes (Elt F) f L.2.2.1) ∗ (∃ f, arg4.view.loc (c : Thread nD τ) ↦[arg4.view.set]{fullShare} arg4.view.writes (Elt F) f L.2.2.2) ∗ (∃ f, arg5.view.loc (c : Thread nD τ) ↦[arg5.view.set]{fullShare} arg5.view.writes (Elt F) f L.1) ∗ arg6.view.loc (c : Thread nD τ) ↦[arg6.view.set]{fullShare} arg6.view.writes (Elt F) (harg6.unread xs1) L.2.1) -∗ K ⟨⟩))
          ⊢ wp frame (wpE (defs₀ (F := F)) Variants.none c none) E (cc0_block_amax i arg1 harg1 arg2 harg2 arg3 harg3 arg4 harg4 arg5 harg5 arg6 harg6) K } := by
  refine ⟨(?_, ?_, ?_, ?_), fun E K => ?run⟩
  case run =>
    dsimp only
    simp only [cc0_block_amax_eq_skeleton]; unfold cc0_block_amax_skel
    simp only [k0_part551_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part552_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part553_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part554_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part555_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part556_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part557_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part558_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part559_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _, _; isplitr; swap; · iexact H1
      ipureintro; rfl
    isplitl [H2]; · iexists _; iexact H2
    isplitl [H3]; · iexists _; iexact H3
    isplitl [HS0]; · iexists _; iexact HS0
    iexact HS1

end Cert.AmaxIdeal.Scales

end
-- ==== Proof.Scales.BridgeC.lean ====
/- What the run of the kernel body at the last point stores, in terms of the chunks' functions. -/
module

public import proofs.«01_k».proof.Proof.Scales.RunC
public import proofs.«01_k».proof.Proof.Scales.BridgeBase

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic

variable {F : FTy → Type} [FloatOps F]

theorem runC_eq (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole) (hc0 : ¬cond0 i) (hc1 : cond1 i) (x0 : Vec F S1024x4096 .bf16) (xs0 : Vec F S64x128 .bf16) (xs1 : Vec F S896x256 .bf16) :
    (runC c i arg1 harg1 arg2 harg2 arg3 harg3 arg4 harg4 arg5 harg5 arg6 harg6 hc0 hc1 x0  xs0 xs1).1 = ([⟨Rect.unit ![0, 0] S64x128.size inb_S64x128_S64x128_0_0, runMax (View.readAt (Elt F) arg5.view (Rect.unit ![0, 0] S64x128.size inb_S64x128_S64x128_0_0).toLoadRect (harg5.unread xs0)) (ck arg1 harg1 x0)⟩], halfPieces i (ck arg1 harg1 x0),
      [⟨Rect.unit ![0, 0] S896x256.size inb_S896x256_S896x256_0_0,
        k0_pay3 (runMaxRaw (View.readAt (Elt F) arg5.view (Rect.unit ![0, 0] S64x128.size inb_S64x128_S64x128_0_0).toLoadRect (harg5.unread xs0)) (ck arg1 harg1 x0))
          (View.readAt (Elt F) arg6.view (Rect.unit ![0, 0] S896x256.size inb_S896x256_S896x256_0_0).toLoadRect (arg6.view.writes (Elt F) (harg6.unread xs1) (halfPieces i (ck arg1 harg1 x0))))⟩],
      [⟨Rect.unit ![0] S1.size inb_S1_S1_0, fun _ => k0_pay2 (runMaxRaw (View.readAt (Elt F) arg5.view (Rect.unit ![0, 0] S64x128.size inb_S64x128_S64x128_0_0).toLoadRect (harg5.unread xs0)) (ck arg1 harg1 x0))⟩]) := by
  sl_kernel_rfl

end Cert.AmaxIdeal.Scales

end
-- ==== Proof.Scales.ChunkVal.lean ====
/- The values of the chunk's functions at the ideal values. -/
module

public import proofs.«01_k».proof.Proof.Scales.Chunk
public import Idealize.ShloMosaic.PureOps.Ideal.Laws
public import Idealize.ShloMosaic.Lib.Pointwise.Tactic
public import Idealize.ShloMosaic.Lib.Pointwise
public import Idealize.ShloMosaic.Lib.Pipeline.Value

@[expose] public section

noncomputable section

namespace Cert.Scales

open Idealize.ShloMosaic

theorem step8 (a b : FVec Ideal S16x128 .f32) (r : Fin 16) (l : Fin 128) :
    step 8#32 8#32 a b (ix2 r l) = if h : r.val < 8 then max (a (ix2 r l)) (a (ix2 ⟨r.val + 8, by omega⟩ l))
      else max (b (ix2 ⟨r.val - 8, by omega⟩ l)) (b (ix2 r l)) := by
  unfold step low
  fin_cases r <;> pointwise <;> rfl

theorem step4 (a b : FVec Ideal S16x128 .f32) (r : Fin 16) (l : Fin 128) :
    step 4#32 12#32 a b (ix2 r l) = if h : r.val / 4 % 2 = 0 then max (a (ix2 r l)) (a (ix2 ⟨r.val + 4, by omega⟩ l))
      else max (b (ix2 ⟨r.val - 4, by omega⟩ l)) (b (ix2 r l)) := by
  unfold step low
  fin_cases r <;> pointwise <;> rfl

theorem step2 (a b : FVec Ideal S16x128 .f32) (r : Fin 16) (l : Fin 128) :
    step 2#32 14#32 a b (ix2 r l) = if h : r.val / 2 % 2 = 0 then max (a (ix2 r l)) (a (ix2 ⟨r.val + 2, by omega⟩ l))
      else max (b (ix2 ⟨r.val - 2, by omega⟩ l)) (b (ix2 r l)) := by
  unfold step low
  fin_cases r <;> pointwise <;> rfl

/-- A maximum along axes is at most `z` exactly when all the entries it runs over are. -/
theorem multiReduction_le {s t : Shape} {axes : List (Fin s.rank)} (x : FVec Ideal s .f32) (h : s.Reduces axes t)
    (hφ : FKind.Formats .f32) (hacc : 0xFF800000#32 = FKind.maximumf.neutral .f32 hφ) (j : t.Idx) (z : EReal) :
    multiReduction .maximumf axes t x 0xFF800000#32 h hφ hacc j ≤ z ↔ ∀ i, h.drop i = j → x i ≤ z := by
  rw [multiReduction_maximumf_eq_fold]
  have hb : (FloatOps.ofBits (F := Ideal) .f32 0xFF800000#32 : EReal) = ⊥ := by
    show Ideal.ofBits .f32 0xFF800000#32 = ⊥
    simp [Ideal.ofBits, Ideal.ieee]
  have e : (Finset.univ.filter fun i => h.drop i = j).fold FloatOps.maximumf (FloatOps.ofBits .f32 0xFF800000#32) x
      = (Finset.univ.filter fun i => h.drop i = j).fold (max : EReal → EReal → EReal) (FloatOps.ofBits (F := Ideal) .f32 0xFF800000#32 : EReal) x := rfl
  rw [e, Finset.fold_max_le, hb]
  simp

theorem halves (T : FVec Ideal S16x128 .f32) (h : S16x128.ShapeCasts S8x2x128) (r : Fin 8) (k : Fin 2) (l : Fin 128) :
    shapeCast S8x2x128 T h (ix3 r k l) = T (ix2 ⟨2 * r.val + k.val, by omega⟩ l) := by
  refine shapeCast_apply _ _ _ _ ?_
  rw [Shape.rowMajor_val_two, Shape.rowMajor_val_three]
  show (2 * r.val + k.val) * 128 + l.val = (r.val * 2 + k.val) * 128 + l.val
  omega

theorem group_le (x0 x1 x2 x3 x4 x5 x6 x7 : FVec Ideal S16x128 .f32) (r : Fin 8) (l : Fin 128) (z : EReal) :
    group x0 x1 x2 x3 x4 x5 x6 x7 (ix2 r l) ≤ z ↔ ∀ ρ : Fin 16, ![x0, x1, x2, x3, x4, x5, x6, x7] r (ix2 ρ l) ≤ z := by
  have h2 : group x0 x1 x2 x3 x4 x5 x6 x7 (ix2 r l) ≤ z ↔ tree x0 x1 x2 x3 x4 x5 x6 x7 (ix2 ⟨2 * r.val, by omega⟩ l) ≤ z ∧
      tree x0 x1 x2 x3 x4 x5 x6 x7 (ix2 ⟨2 * r.val + 1, by omega⟩ l) ≤ z := by
    generalize hT : tree x0 x1 x2 x3 x4 x5 x6 x7 = T
    unfold group
    rw [hT]
    refine (multiReduction_le _ _ _ _ _ z).trans ⟨fun h => ⟨?_, ?_⟩, fun h => ?_⟩
    · have := h (ix3 r 0 l) (by funext b; fin_cases b <;> rfl)
      rwa [halves] at this
    · have := h (ix3 r 1 l) (by funext b; fin_cases b <;> rfl)
      rwa [halves] at this
    · intro i hi
      have e0 : i 0 = r := congrFun hi 0
      have e2 : i 2 = l := congrFun hi 1
      have e : i = ix3 (n0 := 8) (n1 := 2) (n2 := 128) r (i 1) l := by rw [← e0, ← e2]; exact eq_ix3 i
      rw [e]
      refine (halves T _ r (i 1) l).le.trans ?_
      have h' : ∀ k : Fin 2, T (ix2 ⟨2 * r.val + k.val, by omega⟩ l) ≤ z := by
        intro k
        fin_cases k
        · exact h.1
        · exact h.2
      exact h' (i 1)
  rw [h2]
  unfold tree
  fin_cases r
  all_goals
    simp [step2, step4, step8, Fin.forall_fin_succ]
    constructor <;> intro h <;> simp only [h, and_self]

theorem stack_apply (g0 g1 g2 g3 g4 g5 g6 g7 : FVec Ideal S8x128 .f32) (r : Fin 64) (l : Fin 128) :
    stack g0 g1 g2 g3 g4 g5 g6 g7 (ix2 r l) = ![g0, g1, g2, g3, g4, g5, g6, g7] ⟨r.val / 8, by omega⟩ (ix2 ⟨r.val % 8, by omega⟩ l) := by
  obtain ⟨q, s, hq, hs, rfl⟩ : ∃ q s, ∃ (hq : q < 8) (hs : s < 8), r = ⟨8 * q + s, by omega⟩ :=
    ⟨r.val / 8, r.val % 8, by omega, by omega, by ext; simp; omega⟩
  have e1 : (8 * q + s) / 8 = q := by omega
  have e2 : (8 * q + s) % 8 = s := by omega
  simp only [e1, e2]
  unfold stack
  interval_cases q
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 0 (by simp) g0 rfl rfl 0 rfl
      (ix2 ⟨s, hs⟩ l) (by intro b hb; fin_cases b <;> first | rfl | exact absurd rfl hb) (by show 0 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 1 (by simp) g1 rfl rfl 8 rfl
      (ix2 ⟨s, hs⟩ l) (by intro b hb; fin_cases b <;> first | rfl | exact absurd rfl hb) (by show 8 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 2 (by simp) g2 rfl rfl 16 rfl
      (ix2 ⟨s, hs⟩ l) (by intro b hb; fin_cases b <;> first | rfl | exact absurd rfl hb) (by show 16 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 3 (by simp) g3 rfl rfl 24 rfl
      (ix2 ⟨s, hs⟩ l) (by intro b hb; fin_cases b <;> first | rfl | exact absurd rfl hb) (by show 24 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 4 (by simp) g4 rfl rfl 32 rfl
      (ix2 ⟨s, hs⟩ l) (by intro b hb; fin_cases b <;> first | rfl | exact absurd rfl hb) (by show 32 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 5 (by simp) g5 rfl rfl 40 rfl
      (ix2 ⟨s, hs⟩ l) (by intro b hb; fin_cases b <;> first | rfl | exact absurd rfl hb) (by show 40 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 6 (by simp) g6 rfl rfl 48 rfl
      (ix2 ⟨s, hs⟩ l) (by intro b hb; fin_cases b <;> first | rfl | exact absurd rfl hb) (by show 48 + s = _; simp)
  · exact concatenate_apply_piece (t := S64x128) (s₁ := S8x128) 0 [⟨S8x128, g0⟩, ⟨S8x128, g1⟩, ⟨S8x128, g2⟩, ⟨S8x128, g3⟩, ⟨S8x128, g4⟩, ⟨S8x128, g5⟩, ⟨S8x128, g6⟩, ⟨S8x128, g7⟩] stack_fact _ 7 (by simp) g7 rfl rfl 56 rfl
      (ix2 ⟨s, hs⟩ l) (by intro b hb; fin_cases b <;> first | rfl | exact absurd rfl hb) (by show 56 + s = _; simp)

theorem flip_word (d : ℕ) (hd : d = 1 ∨ d = 2 ∨ d = 4 ∨ d = 8) (l : Fin 128) :
    (Scalar.select (IntOp.cmpi CmpIPredicate.slt (IntOp.xori (BitVec.ofNat 32 l.val) (BitVec.ofNat 32 d)) 0#32)
      (IntOp.addi (IntOp.xori (BitVec.ofNat 32 l.val) (BitVec.ofNat 32 d)) 128#32) (IntOp.xori (BitVec.ofNat 32 l.val) (BitVec.ofNat 32 d))).toNat % 128
        = l.val ^^^ d := by
  rcases hd with rfl | rfl | rfl | rfl <;> revert l <;> decide +kernel

theorem flip_lt (d : ℕ) (hd : d = 1 ∨ d = 2 ∨ d = 4 ∨ d = 8) (l : Fin 128) : l.val ^^^ d < 128 := by
  rcases hd with rfl | rfl | rfl | rfl <;> revert l <;> decide +kernel

theorem pair_apply (d : ℕ) (hd : d = 1 ∨ d = 2 ∨ d = 4 ∨ d = 8) (m : FVec Ideal S64x128 .bf16) (r : Fin 64) (l : Fin 128) :
    pair (BitVec.ofNat 32 d) m (ix2 r l) = max (m (ix2 r l)) (m (ix2 r ⟨l.val ^^^ d, flip_lt d hd l⟩)) := by
  unfold pair wrap lane
  pointwise
  simp only [flip_word d hd l]

/-- The sixteen lanes of a lane's block. -/
def mate (l : Fin 128) (k : Fin 16) : Fin 128 := ⟨16 * (l.val / 16) + k.val, by omega⟩

theorem mate_flips : ∀ (l : Fin 128) (k : Fin 16),
    (mate l k).val ∈ [l.val, l.val ^^^ 1, l.val ^^^ 2, l.val ^^^ 2 ^^^ 1, l.val ^^^ 4, l.val ^^^ 4 ^^^ 1, l.val ^^^ 4 ^^^ 2, l.val ^^^ 4 ^^^ 2 ^^^ 1,
      l.val ^^^ 8, l.val ^^^ 8 ^^^ 1, l.val ^^^ 8 ^^^ 2, l.val ^^^ 8 ^^^ 2 ^^^ 1, l.val ^^^ 8 ^^^ 4, l.val ^^^ 8 ^^^ 4 ^^^ 1, l.val ^^^ 8 ^^^ 4 ^^^ 2, l.val ^^^ 8 ^^^ 4 ^^^ 2 ^^^ 1] := by
  decide +kernel

theorem flips_mate : ∀ (l : Fin 128),
    ∀ q ∈ [l.val, l.val ^^^ 1, l.val ^^^ 2, l.val ^^^ 2 ^^^ 1, l.val ^^^ 4, l.val ^^^ 4 ^^^ 1, l.val ^^^ 4 ^^^ 2, l.val ^^^ 4 ^^^ 2 ^^^ 1,
      l.val ^^^ 8, l.val ^^^ 8 ^^^ 1, l.val ^^^ 8 ^^^ 2, l.val ^^^ 8 ^^^ 2 ^^^ 1, l.val ^^^ 8 ^^^ 4, l.val ^^^ 8 ^^^ 4 ^^^ 1, l.val ^^^ 8 ^^^ 4 ^^^ 2, l.val ^^^ 8 ^^^ 4 ^^^ 2 ^^^ 1],
      ∃ k : Fin 16, (mate l k).val = q := by
  decide +kernel

theorem lanes_le (v : FVec Ideal S64x128 .f32) (r : Fin 64) (l : Fin 128) (z : EReal) :
    lanes v (ix2 r l) ≤ z ↔ ∀ k : Fin 16, v (ix2 r (mate l k)) ≤ z := by
  have key : ∀ (P : Fin 128 → Prop), (∀ q, (h : q < 128) → q ∈ [l.val, l.val ^^^ 1, l.val ^^^ 2, l.val ^^^ 2 ^^^ 1, l.val ^^^ 4, l.val ^^^ 4 ^^^ 1, l.val ^^^ 4 ^^^ 2, l.val ^^^ 4 ^^^ 2 ^^^ 1,
      l.val ^^^ 8, l.val ^^^ 8 ^^^ 1, l.val ^^^ 8 ^^^ 2, l.val ^^^ 8 ^^^ 2 ^^^ 1, l.val ^^^ 8 ^^^ 4, l.val ^^^ 8 ^^^ 4 ^^^ 1, l.val ^^^ 8 ^^^ 4 ^^^ 2, l.val ^^^ 8 ^^^ 4 ^^^ 2 ^^^ 1] → P ⟨q, h⟩)
      ↔ ∀ k : Fin 16, P (mate l k) := by
    intro P
    constructor
    · intro h k
      exact h _ (mate l k).isLt (mate_flips l k)
    · intro h q hq hm
      obtain ⟨k, hk⟩ := flips_mate l q hm
      have : mate l k = ⟨q, hq⟩ := Fin.ext hk
      exact this ▸ h k
  rw [← key (fun q => v (ix2 r q) ≤ z)]
  unfold lanes
  rw [pair_apply 8 (by simp), pair_apply 4 (by simp), pair_apply 4 (by simp)]
  simp only [pair_apply 2 (.inr (.inl rfl)), pair_apply 1 (.inl rfl), max_le_iff]
  have ht : ∀ j, truncf .bf16 v (by decide) j = v j := fun _ => rfl
  simp only [ht]
  constructor
  · rintro h q hq hm
    simp only [List.mem_cons, List.not_mem_nil, or_false] at hm
    rcases hm with rfl | rfl | rfl | rfl | rfl | rfl | rfl | rfl | rfl | rfl | rfl | rfl | rfl | rfl | rfl | rfl <;> simp only [h]
  · intro h
    refine ⟨⟨⟨⟨?_, ?_⟩, ?_, ?_⟩, ⟨?_, ?_⟩, ?_, ?_⟩, ⟨⟨?_, ?_⟩, ?_, ?_⟩, ⟨?_, ?_⟩, ?_, ?_⟩ <;> exact h _ _ (by simp)

theorem div8_apply (r : Fin 64) (l : Fin 128) : div8 (ix2 r l) = BitVec.ofNat 32 (l.val / 8) := by
  unfold div8 lane
  pointwise
  revert l; decide +kernel

theorem spread_apply (m : FVec Ideal S64x128 .bf16) (r : Fin 64) (l : Fin 128) :
    spread m (ix2 r l) = m (ix2 r ⟨l.val % 8 * 16, by omega⟩) := by
  unfold spread wrap mod8 eight lane
  pointwise
  refine congrArg m (congrArg (ix2 r) (Fin.ext ?_))
  dsimp only
  clear r m
  revert l; decide +kernel

end Cert.Scales

end
-- ==== Proof.Scales.ChunkLe.lean ====
/- Upper bounds of the chunk's functions, and so what they are, at the ideal values. -/
module

public import proofs.«01_k».proof.Proof.Scales.ChunkVal
public import Idealize.ShloMosaic.PureOps.Ideal.Laws
public import Idealize.ShloMosaic.Lib.Pointwise.Tactic
public import Idealize.ShloMosaic.Lib.Pointwise
public import Idealize.ShloMosaic.Lib.Pipeline.Value

@[expose] public section

noncomputable section

namespace Cert.Scales

open Idealize.ShloMosaic

set_option maxHeartbeats 2000000 in
theorem stack_group_le (X : Fin 64 → FVec Ideal S16x128 .f32) (r : Fin 64) (l : Fin 128) (z : EReal) :
    stack
      (group (X 0) (X 1) (X 2) (X 3) (X 4) (X 5) (X 6) (X 7))
      (group (X 8) (X 9) (X 10) (X 11) (X 12) (X 13) (X 14) (X 15))
      (group (X 16) (X 17) (X 18) (X 19) (X 20) (X 21) (X 22) (X 23))
      (group (X 24) (X 25) (X 26) (X 27) (X 28) (X 29) (X 30) (X 31))
      (group (X 32) (X 33) (X 34) (X 35) (X 36) (X 37) (X 38) (X 39))
      (group (X 40) (X 41) (X 42) (X 43) (X 44) (X 45) (X 46) (X 47))
      (group (X 48) (X 49) (X 50) (X 51) (X 52) (X 53) (X 54) (X 55))
      (group (X 56) (X 57) (X 58) (X 59) (X 60) (X 61) (X 62) (X 63)) (ix2 r l) ≤ z ↔ ∀ ρ : Fin 16, X r (ix2 ρ l) ≤ z := by
  rw [stack_apply]
  fin_cases r <;> exact group_le _ _ _ _ _ _ _ _ _ l z

theorem chunk_le (X : Fin 64 → FVec Ideal S16x128 .f32) (r : Fin 64) (l : Fin 128) (z : EReal) :
    chunk X (ix2 r l) ≤ z ↔ ∀ (k : Fin 16) (ρ : Fin 16), X r (ix2 ρ (mate l k)) ≤ z := by
  unfold chunk
  rw [lanes_le]
  exact forall_congr' fun k => stack_group_le X r (mate l k) z

theorem place_apply (k : ℕ) (hk : k < 16) (m : FVec Ideal S64x128 .bf16) (p : FVec Ideal S64x128 .f32) (r : Fin 64) (l : Fin 128) :
    place (BitVec.ofNat 32 k) m p (ix2 r l) = if l.val / 8 = k then m (ix2 r ⟨l.val % 8 * 16, by omega⟩) else p (ix2 r l) := by
  have e : place (BitVec.ofNat 32 k) m p (ix2 r l) = Scalar.select (IntOp.cmpi CmpIPredicate.eq (div8 (ix2 r l)) (BitVec.ofNat 32 k)) (spread m (ix2 r l)) (p (ix2 r l)) := rfl
  rw [e, div8_apply, spread_apply]
  by_cases h : l.val / 8 = k
  · subst h; simp [Scalar.select, IntOp.cmpi]
  · have h' : (BitVec.ofNat 32 (l.val / 8) == BitVec.ofNat 32 k) = false := by
      rw [beq_eq_false_iff_ne]
      intro hb
      have := congrArg BitVec.toNat hb
      simp only [BitVec.toNat_ofNat] at this
      omega
    simp [Scalar.select, IntOp.cmpi, h, h']

theorem gather_apply (M : Fin 16 → FVec Ideal S64x128 .bf16) (r : Fin 64) (l : Fin 128) :
    gather M (ix2 r l) = M ⟨l.val / 8, by omega⟩ (ix2 r ⟨l.val % 8 * 16, by omega⟩) := by
  unfold gather
  rw [shapeCast_self]
  show (place 15#32 (M 15) _ (ix2 r l) : EReal) = _
  obtain ⟨q, s, hq, hs, rfl⟩ : ∃ q s, ∃ (hq : q < 16) (hs : s < 8), l = ⟨8 * q + s, by omega⟩ :=
    ⟨l.val / 8, l.val % 8, by omega, by omega, by ext; simp; omega⟩
  have e1 : (8 * q + s) / 8 = q := by omega
  have e2 : (8 * q + s) % 8 = s := by omega
  simp only [place_apply 0 (by omega), place_apply 1 (by omega), place_apply 2 (by omega), place_apply 3 (by omega), place_apply 4 (by omega), place_apply 5 (by omega),
    place_apply 6 (by omega), place_apply 7 (by omega), place_apply 8 (by omega), place_apply 9 (by omega), place_apply 10 (by omega), place_apply 11 (by omega),
    place_apply 12 (by omega), place_apply 13 (by omega), place_apply 14 (by omega), place_apply 15 (by omega), e1, e2]
  interval_cases q <;> rfl

theorem runMax_eq (v : FVec Ideal S64x128 .bf16) (M : Fin 32 → FVec Ideal S64x128 .bf16) : runMax v M = runMaxRaw v M := by
  unfold runMax
  rw [shapeCast_self]

theorem runMax_le (v : FVec Ideal S64x128 .bf16) (M : Fin 32 → FVec Ideal S64x128 .bf16) (i : S64x128.Idx) (z : EReal) :
    runMaxRaw v M i ≤ z ↔ v i ≤ z ∧ ∀ k, M k i ≤ z := by
  unfold runMaxRaw
  have hm : ∀ (a b : FVec Ideal S64x128 .bf16), maximumf a b i ≤ z ↔ a i ≤ z ∧ b i ≤ z := fun a b => max_le_iff
  simp only [hm, Fin.forall_fin_succ]
  constructor <;> intro h <;> simp_all

theorem mag_apply (x : Vec Ideal S16x128 .bf16) (i : S16x128.Idx) : mag x i = max (x i) (-(x i) : EReal) := rfl

end Cert.Scales

end
-- ==== Proof.Scales.Steps.lean ====
/- What one point of the kernel leaves in its two scratch buffers, by upper bounds: the running maximum and the block maxima. -/
module

public import proofs.«01_k».proof.Proof.Scales.BridgeBase
public import proofs.«01_k».proof.Proof.Scales.ChunkLe
public import Idealize.ShloMosaic.Lib.WritesUnit
public import Idealize.ShloMosaic.Lib.VecWindow
public import Idealize.ShloMosaic.Lib.WholeRead

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic

/-- A block of the weight: what one point reads. -/
abbrev Blk := Vec Ideal S1024x4096 .bf16

/-- The magnitude of the entry in row `a` and column `b` (the indices taken modulo the extents). -/
def mg (x : Blk) (a b : ℕ) : EReal := max (x (ix2 (Fin.ofNat 1024 a) (Fin.ofNat 4096 b))) (-(x (ix2 (Fin.ofNat 1024 a) (Fin.ofNat 4096 b))))

/-- After point `n`: the running maximum bounds every magnitude read so far in its rows and columns, and zero, tightly. -/
def P5 (B : ℕ → Blk) (n : ℕ) (d : FVec Ideal S64x128 .bf16) : Prop :=
  ∀ (r : Fin 64) (l : Fin 128) (z : EReal), d (ix2 r l) ≤ z ↔ 0 ≤ z ∧ ∀ t, t ≤ n → ∀ (k : Fin 32) (κ ρ : Fin 16),
    mg (B t) (16 * r.val + ρ.val) (128 * k.val + 16 * (l.val / 16) + κ.val) ≤ z

/-- After point `n`: the block maxima of the points so far. -/
def P6 (B : ℕ → Blk) (n : ℕ) (d : Vec Ideal S896x256 .bf16) : Prop :=
  ∀ t, t ≤ n → ∀ (r : Fin 64) (j : Fin 256) (a : Fin 896), a.val = 64 * t + r.val → ∀ z : EReal,
    d (ix2 a j) ≤ z ↔ ∀ κ ρ : Fin 16, mg (B t) (16 * r.val + ρ.val) (16 * j.val + κ.val) ≤ z

variable (arg1 : Memref sig .tc .vmem S1024x4096 .bf16) (harg1 : arg1.IsWhole)

theorem ld_apply (x0 : Blk) (k : Fin 32) (r : Fin 64) (ρ : Fin 16) (l : Fin 128) :
    ld arg1 harg1 x0 k r (ix2 ρ l) = mg x0 (16 * r.val + ρ.val) (128 * k.val + l.val) := by
  unfold ld
  rw [mag_apply, harg1.readAt_unread]
  have e : (Rect.unit (s := S1024x4096) ![16 * r.val, 128 * k.val] Cert.Scales.S16x128.size (inb_ld r k)).toLoadRect.idx (ix2 ρ l)
      = ix2 (Fin.ofNat 1024 (16 * r.val + ρ.val)) (Fin.ofNat 4096 (128 * k.val + l.val)) := by
    funext a
    apply Fin.ext
    fin_cases a
    · show 16 * r.val + 1 * ρ.val = (16 * r.val + ρ.val) % 1024
      omega
    · show 128 * k.val + 1 * l.val = (128 * k.val + l.val) % 4096
      omega
  rw [e]
  rfl

theorem ck_le (x0 : Blk) (k : Fin 32) (r : Fin 64) (l : Fin 128) (z : EReal) :
    ck arg1 harg1 x0 k (ix2 r l) ≤ z ↔ ∀ κ ρ : Fin 16, mg x0 (16 * r.val + ρ.val) (128 * k.val + 16 * (l.val / 16) + κ.val) ≤ z := by
  unfold ck
  rw [chunk_le]
  refine forall_congr' fun κ => forall_congr' fun ρ => ?_
  rw [ld_apply]
  have e : 128 * k.val + (mate l κ).val = 128 * k.val + 16 * (l.val / 16) + κ.val := by
    show 128 * k.val + (16 * (l.val / 16) + κ.val) = _
    omega
  rw [e]

theorem P5_zero (B : ℕ → Blk) (z5 : FVec Ideal S64x128 .bf16) (hz : ∀ i, z5 i = (0 : EReal)) :
    P5 B 0 (runMaxRaw z5 (ck arg1 harg1 (B 0))) := by
  intro r l z
  rw [runMax_le, hz]
  refine and_congr Iff.rfl ⟨fun h t ht k => ?_, fun h k => ?_⟩
  · obtain rfl : t = 0 := by omega
    exact (ck_le arg1 harg1 (B 0) k r l z).mp (h k)
  · exact (ck_le arg1 harg1 (B 0) k r l z).mpr (h 0 le_rfl k)

theorem P5_succ (B : ℕ → Blk) (n : ℕ) (d : FVec Ideal S64x128 .bf16) (h : P5 B n d) :
    P5 B (n + 1) (runMaxRaw d (ck arg1 harg1 (B (n + 1)))) := by
  intro r l z
  rw [runMax_le, h r l z, and_assoc]
  refine and_congr Iff.rfl ⟨fun h t ht k => ?_, fun h => ⟨fun t ht => h t (by omega), fun k => ?_⟩⟩
  · rcases Nat.lt_or_ge n t with hn | hn
    · obtain rfl : t = n + 1 := by omega
      exact (ck_le arg1 harg1 _ k r l z).mp (h.2 k)
    · exact h.1 t hn k
  · exact (ck_le arg1 harg1 _ k r l z).mpr (h (n + 1) le_rfl k)

variable (arg6 : Memref sig .tc .vmem S896x256 .bf16)

theorem half_hit (i : grid0.Coords) (f : arg6.view.ty.Contents (Elt Ideal)) (M : Fin 32 → FVec Ideal Cert.Scales.S64x128 .bf16) (r : Fin 64) (j : Fin 256) (a : Fin 896)
    (ha : a.val = 64 * (i 0).val + r.val) :
    arg6.view.read (Elt Ideal) (arg6.view.writes (Elt Ideal) f (halfPieces i M)) (ix2 a j) = M ⟨j.val / 8, by omega⟩ (ix2 r ⟨j.val % 8 * 16, by omega⟩) := by
  unfold halfPieces
  by_cases hj : j.val < 128
  · rw [View.read_writes_cons_unit_of_not_mem _ _ _ _ _ _ (k0_off2_eq i) 1 (Or.inl hj)]
    rw [View.read_writes_cons_unit_of_mem (v := arg6.view) (f := f) (k0_off1_inb i) _ [] (ix2 a j) (ix2 r ⟨j.val, hj⟩ : S64x128.Idx) (k0_off1_eq i)
      (fun b => by
        fin_cases b
        · exact ha
        · exact (Nat.zero_add _).symm)]
    rw [gather_apply]
  · rw [View.read_writes_cons_unit_of_mem (v := arg6.view) (f := f) (k0_off2_inb i) _ _ (ix2 a j) (ix2 r ⟨j.val - 128, by omega⟩ : S64x128.Idx) (k0_off2_eq i)
      (fun b => by
        fin_cases b
        · exact ha
        · show j.val = 128 + (j.val - 128); omega)]
    rw [gather_apply]
    have e1 : (⟨(j.val - 128) / 8 + 16, by omega⟩ : Fin 32) = ⟨j.val / 8, by omega⟩ := Fin.ext (by show (j.val - 128) / 8 + 16 = j.val / 8; omega)
    have e2 : (⟨(j.val - 128) % 8 * 16, by omega⟩ : Fin 128) = ⟨j.val % 8 * 16, by omega⟩ := Fin.ext (by show (j.val - 128) % 8 * 16 = j.val % 8 * 16; omega)
    dsimp only
    rw [e1, e2]

theorem half_miss (i : grid0.Coords) (f : arg6.view.ty.Contents (Elt Ideal)) (M : Fin 32 → FVec Ideal Cert.Scales.S64x128 .bf16) (j : Fin 256) (a : Fin 896)
    (ha : a.val < 64 * (i 0).val) :
    arg6.view.read (Elt Ideal) (arg6.view.writes (Elt Ideal) f (halfPieces i M)) (ix2 a j) = arg6.view.read (Elt Ideal) f (ix2 a j) := by
  unfold halfPieces
  rw [View.read_writes_cons_unit_of_not_mem _ _ _ _ _ _ (k0_off2_eq i) 0 (Or.inl ha),
    View.read_writes_cons_unit_of_not_mem _ _ _ _ _ _ (k0_off1_eq i) 0 (Or.inl ha)]
  rfl

theorem P6_step (B : ℕ → Blk) (n : ℕ) (i : grid0.Coords) (hi : (i 0).val = n) (f : arg6.view.ty.Contents (Elt Ideal))
    (h : ∀ m, n = m + 1 → P6 B m (arg6.view.read (Elt Ideal) f)) :
    P6 B n (arg6.view.read (Elt Ideal) (arg6.view.writes (Elt Ideal) f (halfPieces i (ck arg1 harg1 (B n))))) := by
  intro t ht r j a ha z
  rcases Nat.lt_or_ge t n with hn | hn
  · obtain ⟨m, rfl⟩ : ∃ m, n = m + 1 := ⟨n - 1, by omega⟩
    rw [half_miss arg6 i f _ j a (by omega)]
    exact h m rfl t (by omega) r j a ha z
  · obtain rfl : t = n := by omega
    rw [half_hit arg6 i f _ r j a (by omega), ck_le]
    have e : 128 * (j.val / 8) + 16 * (j.val % 8 * 16 / 16) = 16 * j.val := by omega
    simp only [e]

end Cert.AmaxIdeal.Scales

end
-- ==== Proof.Scales.Data.lean ====
/- The kernel's proof data, relational: what each point may leave in the outputs' staging buffers, and the invariant over the two scratch buffers. -/
module

public import proofs.«01_k».proof.Proof.Scales.Steps
public import proofs.«01_k».proof.Proof.Scales.RunA
public import proofs.«01_k».proof.Proof.Gen.AmaxIdeal.Frame
public import Idealize.ShloMosaic.Lib.Pipeline.ArrRel
public import Idealize.ShloMosaic.Lib.Claim

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem hcond0 : ∀ t : Fin cfg0.N, cond0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0, e0]
    word_cmp
   : ∀ t : Fin grid0.N, cond0 (grid0.coords t) ↔ t.val % 14 = 0)

theorem hcond1 : ∀ t : Fin cfg0.N, cond1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond1, k0_cond2, e0]
    word_cmp
   : ∀ t : Fin grid0.N, cond1 (grid0.coords t) ↔ t.val % 14 = 13)

theorem coord_val : ∀ t : Fin cfg0.N, (grid0.coords t 0).val = t.val :=
  (fun t => by
    have ht : t.val < 14 := Nat.lt_of_lt_of_eq t.isLt N_0
    have e0 : (grid0.coords t 0).val = t.val / 1 % 14 := Pipeline.Grid.coords_val t 0 (by decide) rfl
    omega
   : ∀ t : Fin grid0.N, (grid0.coords t 0).val = t.val)

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev scM0_0 : Memref sig .tc .vmem S64x128 .bf16 := Memref.whole cc0_scratch0
abbrev scM0_1 : Memref sig .tc .vmem S896x256 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The block of the weight that point `n` reads (any block beyond the grid). -/
def Bk (c : Dev nD) (n : ℕ) : Blk := if h : n < cfg0.N then iblk m c 0 ⟨n, h⟩ else fun _ => (0 : EReal)

theorem Bk_eq (c : Dev nD) (t : Fin cfg0.N) : Bk m c t.val = iblk m c 0 t := dif_pos t.isLt

/-- The invariant before point `n`: after at least one point, the running maximum and the block maxima are those of the points so far. -/
def PhiR (c : Dev nD) : ℕ → sProp 𝕄
  | 0 => Pipeline.ΦA spec0 c
  | n + 1 => iprop(iprop((∃ d, ⌜P5 (Bk m c) n d⌝ ∗ owns (c : Thread nD τ) scM0_0 fullShare d)
      ∗ (∃ d, ⌜P6 (Bk m c) n d⌝ ∗ owns (c : Thread nD τ) scM0_1 fullShare d)) ∗ (∃ r, prngReg c r))

/-- What the last point leaves as the block scales. -/
def AfterB (c : Dev nD) (t : Fin cfg0.N) (X : Vec Ideal S896x256 .fp8e4m3) : Prop :=
  t.val = 13 → ∃ d5 d6, P5 (Bk m c) 13 d5 ∧ P6 (Bk m c) 13 d6 ∧ X = k0_pay3 d5 d6

/-- What the last point leaves as the tensor scale. -/
def AfterT (c : Dev nD) (t : Fin cfg0.N) (X : Vec Ideal S1 .f32) : Prop :=
  t.val = 13 → ∃ d5, P5 (Bk m c) 13 d5 ∧ X = fun _ => k0_pay2 d5

/-- The proof data: the input's buffer is left as found, the expanded block indices are not described, the scales are those of the last point. -/
def rdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun _ _ => True
    | ⟨2, _⟩ => fun _ X => AfterB m c t X
    | ⟨3, _⟩ => fun _ X => AfterT m c t X
  Φ t := PhiR m c t.val
  q _ := fullShare
  owed _ := 0

theorem A_eq (c : Dev nD) (w : Fin cfg0.W) : (rdat m c).A w = V m c (Pipeline.arrRef spec0 w) := by
  dsimp only [rdat]

theorem after0 (c : Dev nD) (t : Fin cfg0.N) (Y X) (h : (rdat m c).after 0 t Y X) : X = Y := h

/-- The input's buffer holds the point's block. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => after0 m c t Y X h) t Y h
  rw [hd]
  unfold RDat.fetched RDat.blockOf iblk
  rw [A_eq]
  rfl

end Cert.AmaxIdeal.Scales

end
-- ==== Proof.Scales.Stored.lean ====
/- What the runs of the body leave in the buffers, by upper bounds. -/
module

public import proofs.«01_k».proof.Proof.Scales.BridgeA
public import proofs.«01_k».proof.Proof.Scales.BridgeB
public import proofs.«01_k».proof.Proof.Scales.BridgeC
public import proofs.«01_k».proof.Proof.Scales.Data

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

section Stored

variable (c : Dev nD) (i : grid0.Coords) (arg1 : Memref sig .tc .vmem S1024x4096 .bf16) (harg1 : arg1.IsWhole) (arg2 : Memref sig .tc .vmem S64x4096 .bf16) (harg2 : arg2.IsWhole) (arg3 : Memref sig .tc .vmem S896x256 .fp8e4m3) (harg3 : arg3.IsWhole) (arg4 : Memref sig .tc .smem S1 .f32) (harg4 : arg4.IsWhole) (arg5 : Memref sig .tc .vmem S64x128 .bf16) (harg5 : arg5.IsWhole) (arg6 : Memref sig .tc .vmem S896x256 .bf16) (harg6 : arg6.IsWhole)
  (B : ℕ → Blk)

theorem zeros_apply (i : S64x128.Idx) : (k0_pay4 (F := Ideal)) i = (0 : EReal) := by
  have e : (k0_pay4 (F := Ideal)) = shapeCast S64x128 (broadcast S64x128 (FloatOps.ofBits (F := Ideal) .bf16 0x0000#16)) shapeCasts_S64x128_S64x128 := rfl
  rw [e, shapeCast_self]
  show FloatOps.ofBits (F := Ideal) .bf16 0x0000#16 = (0 : EReal)
  exact Ideal.ofBits_zero ..

theorem A_max (hc0 : cond0 i) (hc1 : ¬cond1 i) (xs1 : Vec Ideal S896x256 .bf16) (f : arg5.view.ty.Contents (Elt Ideal)) :
    P5 B 0 (arg5.view.read (Elt Ideal) (arg5.view.writes (Elt Ideal) f (runA c i arg1 harg1 arg2 harg2 arg3 harg3 arg4 harg4 arg5 harg5 arg6 harg6 hc0 hc1 (B 0) xs1).1.1)) := by
  rw [runA_eq]
  dsimp only
  rw [View.read_writes_full, View.readCov_full, runMax_eq]
  exact P5_zero arg1 harg1 B _ zeros_apply

theorem A_blocks (hc0 : cond0 i) (hc1 : ¬cond1 i) (hi : (i 0).val = 0) (xs1 : Vec Ideal S896x256 .bf16) :
    P6 B 0 (arg6.view.read (Elt Ideal) (arg6.view.writes (Elt Ideal) (harg6.unread xs1) (runA c i arg1 harg1 arg2 harg2 arg3 harg3 arg4 harg4 arg5 harg5 arg6 harg6 hc0 hc1 (B 0) xs1).1.2)) := by
  rw [runA_eq]
  exact P6_step arg1 harg1 arg6 B 0 i hi _ (fun m h => by omega)

theorem B_max (n : ℕ) (hc0 : ¬cond0 i) (hc1 : ¬cond1 i) (xs0 : Vec Ideal S64x128 .bf16) (xs1 : Vec Ideal S896x256 .bf16) (h : P5 B n xs0) (f : arg5.view.ty.Contents (Elt Ideal)) :
    P5 B (n + 1) (arg5.view.read (Elt Ideal) (arg5.view.writes (Elt Ideal) f (runB c i arg1 harg1 arg2 harg2 arg3 harg3 arg4 harg4 arg5 harg5 arg6 harg6 hc0 hc1 (B (n + 1)) xs0 xs1).1.1)) := by
  rw [runB_eq]
  dsimp only
  rw [View.read_writes_full, View.readAt_full, harg5.read_unread, runMax_eq]
  exact P5_succ arg1 harg1 B n _ h

theorem B_blocks (n : ℕ) (hc0 : ¬cond0 i) (hc1 : ¬cond1 i) (hi : (i 0).val = n + 1) (xs0 : Vec Ideal S64x128 .bf16) (xs1 : Vec Ideal S896x256 .bf16) (h : P6 B n xs1) :
    P6 B (n + 1) (arg6.view.read (Elt Ideal) (arg6.view.writes (Elt Ideal) (harg6.unread xs1) (runB c i arg1 harg1 arg2 harg2 arg3 harg3 arg4 harg4 arg5 harg5 arg6 harg6 hc0 hc1 (B (n + 1)) xs0 xs1).1.2)) := by
  rw [runB_eq]
  exact P6_step arg1 harg1 arg6 B (n + 1) i hi _ (fun m e => by obtain rfl : n = m := by omega
                                                                rw [harg6.read_unread]; exact h)

theorem C_max (n : ℕ) (hc0 : ¬cond0 i) (hc1 : cond1 i) (xs0 : Vec Ideal S64x128 .bf16) (xs1 : Vec Ideal S896x256 .bf16) (h : P5 B n xs0) (f : arg5.view.ty.Contents (Elt Ideal)) :
    P5 B (n + 1) (arg5.view.read (Elt Ideal) (arg5.view.writes (Elt Ideal) f (runC c i arg1 harg1 arg2 harg2 arg3 harg3 arg4 harg4 arg5 harg5 arg6 harg6 hc0 hc1 (B (n + 1)) xs0 xs1).1.1)) := by
  rw [runC_eq]
  dsimp only
  rw [View.read_writes_full, View.readAt_full, harg5.read_unread, runMax_eq]
  exact P5_succ arg1 harg1 B n _ h

theorem C_blocks (n : ℕ) (hc0 : ¬cond0 i) (hc1 : cond1 i) (hi : (i 0).val = n + 1) (xs0 : Vec Ideal S64x128 .bf16) (xs1 : Vec Ideal S896x256 .bf16) (h : P6 B n xs1) :
    P6 B (n + 1) (arg6.view.read (Elt Ideal) (arg6.view.writes (Elt Ideal) (harg6.unread xs1) (runC c i arg1 harg1 arg2 harg2 arg3 harg3 arg4 harg4 arg5 harg5 arg6 harg6 hc0 hc1 (B (n + 1)) xs0 xs1).1.2.1)) := by
  rw [runC_eq]
  exact P6_step arg1 harg1 arg6 B (n + 1) i hi _ (fun m e => by obtain rfl : n = m := by omega
                                                                rw [harg6.read_unread]; exact h)

theorem C_scales (n : ℕ) (hc0 : ¬cond0 i) (hc1 : cond1 i) (hi : (i 0).val = n + 1) (xs0 : Vec Ideal S64x128 .bf16) (xs1 : Vec Ideal S896x256 .bf16) (h : P5 B n xs0) (h6 : P6 B n xs1) (N : ℕ) (hN : N = n + 1) (f : arg3.view.ty.Contents (Elt Ideal)) :
    ∃ d5 d6, P5 B N d5 ∧ P6 B N d6 ∧
      arg3.view.read (Elt Ideal) (arg3.view.writes (Elt Ideal) f (runC c i arg1 harg1 arg2 harg2 arg3 harg3 arg4 harg4 arg5 harg5 arg6 harg6 hc0 hc1 (B (n + 1)) xs0 xs1).1.2.2.1) = k0_pay3 d5 d6 := by
  subst hN
  refine ⟨_, _, P5_succ arg1 harg1 B n _ h, P6_step arg1 harg1 arg6 B (n + 1) i hi (harg6.unread xs1) (fun m e => ?_), ?_⟩
  · obtain rfl : n = m := by omega
    rw [harg6.read_unread]; exact h6
  · rw [runC_eq]
    dsimp only
    rw [View.read_writes_full, View.readAt_full, harg5.read_unread, View.readAt_full]

theorem C_total (n : ℕ) (hc0 : ¬cond0 i) (hc1 : cond1 i) (xs0 : Vec Ideal S64x128 .bf16) (xs1 : Vec Ideal S896x256 .bf16) (h : P5 B n xs0) (N : ℕ) (hN : N = n + 1) (f : arg4.view.ty.Contents (Elt Ideal)) :
    ∃ d5, P5 B N d5 ∧
      arg4.view.read (Elt Ideal) (arg4.view.writes (Elt Ideal) f (runC c i arg1 harg1 arg2 harg2 arg3 harg3 arg4 harg4 arg5 harg5 arg6 harg6 hc0 hc1 (B (n + 1)) xs0 xs1).1.2.2.2) = fun _ => k0_pay2 d5 := by
  subst hN
  refine ⟨_, P5_succ arg1 harg1 B n _ h, ?_⟩
  rw [runC_eq]
  dsimp only
  rw [View.readAt_full, harg5.read_unread]
  exact View.read_writes_full (s := S1) arg4.view f inb_S1_S1_0 _ []

end Stored

end Cert.AmaxIdeal.Scales

end
-- ==== Proof.Scales.SoundPre.lean ====
/- What the body is called with and what it returns. -/
module

public import proofs.«01_k».proof.Proof.Scales.Stored

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, -/
def bodyPre (c : Dev nD) (t : Fin cfg0.N) (Y1 : Vec Ideal S64x4096 .bf16) (Y2 : Vec Ideal S896x256 .fp8e4m3) (Y3 : Vec Ideal S1 .f32) : sProp 𝕄 :=
  iprop((rdat m c).Φ t.castSucc ∗ (rdat m c).owesAt () t.castSucc
    ∗ owns (c : Thread nD τ) (ms0_0 t) fullShare (Bk m c t.val)
    ∗ owns (c : Thread nD τ) (ms0_1 t) fullShare Y1
    ∗ owns (c : Thread nD τ) (ms0_2 t) fullShare Y2
    ∗ owns (c : Thread nD τ) (ms0_3 t) fullShare Y3)

/-- and what it returns. -/
def bodyPost (c : Dev nD) (t : Fin cfg0.N) : sProp 𝕄 :=
  iprop((rdat m c).Φ t.succ ∗ (rdat m c).owesAt () t.succ
    ∗ (∃ X, ⌜X = Bk m c t.val⌝ ∗ owns (c : Thread nD τ) (ms0_0 t) fullShare X)
    ∗ (∃ X, ⌜True⌝ ∗ owns (c : Thread nD τ) (ms0_1 t) fullShare X)
    ∗ (∃ X, ⌜AfterB m c t X⌝ ∗ owns (c : Thread nD τ) (ms0_2 t) fullShare X)
    ∗ (∃ X, ⌜AfterT m c t X⌝ ∗ owns (c : Thread nD τ) (ms0_3 t) fullShare X))

end Cert.AmaxIdeal.Scales

end
-- ==== Proof.Scales.SoundA.lean ====
/- The body at the first point. -/
module

public import proofs.«01_k».proof.Proof.Scales.SoundPre

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
/-- The body at the first point. -/
theorem sound_first (c : Dev nD) (t : Fin cfg0.N) (Y1 Y2 Y3) (hn : t.val = 0) :
    bodyPre m c t Y1 Y2 Y3 ⊢ wp frame (wpE (defs₀ (F := Ideal)) Variants.none c none) Set.univ (bodyAt0 t) (fun _ => bodyPost m c t) := by
  unfold bodyPre bodyPost bodyAt0
  rw [show (rdat m c).owesAt () t.succ = (rdat m c).owesAt () t.castSucc from rfl]
  rw [show (rdat m c).Φ t.succ = PhiR m c (t.val + 1) from rfl, show (rdat m c).Φ t.castSucc = PhiR m c t.val from rfl]
  have hi := coord_val t
  rw [hn] at hi
  rw [hn]
  have hc0 : cond0 (grid0.coords t) := (hcond0 t).mpr (by omega)
  have hc1 : ¬cond1 (grid0.coords t) := fun h => by have := (hcond1 t).mp h; omega
  have hB : ∀ X, AfterB m c t X := fun X h => by omega
  have hT : ∀ X, AfterT m c t X := fun X h => by omega
  rw [show PhiR m c 0 = Pipeline.ΦA spec0 c from rfl, PhiA0_eq]
  rw [show PhiR m c (0 + 1) = iprop(iprop((∃ d, ⌜P5 (Bk m c) 0 d⌝ ∗ owns (c : Thread nD τ) scM0_0 fullShare d)
    ∗ (∃ d, ⌜P6 (Bk m c) 0 d⌝ ∗ owns (c : Thread nD τ) scM0_1 fullShare d)) ∗ (∃ r, prngReg c r)) from rfl]
  iintro ⟨⟨⟨HS0, ⟨%xs1, HS1⟩⟩, Hg⟩, Ho, H0, H1, H2, H3⟩
  iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Bk m c 0) xs1).2 Set.univ _)
  isplitl [H0]; · iexact H0
  isplitl [H1]; · iexists _; iexact H1
  isplitl [H2]; · iexists _; iexact H2
  isplitl [H3]; · iexists _; iexact H3
  isplitl [HS0]; · iexact HS0
  isplitl [HS1]; · iexact HS1
  iintro ⟨H0, ⟨%d1, H1⟩, ⟨%d2, H2⟩, ⟨%d3, H3⟩, ⟨%es0, HS0⟩, HS1⟩
  isplitl [HS0 HS1 Hg]
  · isplitl [HS0 HS1]
    · isplitl [HS0]
      · iexists _; isplitr
        · ipureintro; exact A_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) hc0 hc1 xs1 es0
        · unfold owns; iexists _; isplitr
          swap; · iexact HS0
          ipureintro; rfl
      · iexists _; isplitr
        · ipureintro; exact A_blocks c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) hc0 hc1 hi xs1
        · unfold owns; iexists _; isplitr
          swap; · iexact HS1
          ipureintro; rfl
    iexact Hg
  isplitl [Ho]; · iexact Ho
  isplitl [H0]
  · iexists _; isplitr
    swap; · iexact H0
    ipureintro; rfl
  isplitl [H1]
  · iexists _; isplitr
    swap; · iexact H1
    ipureintro; trivial
  isplitl [H2]
  · iexists _; isplitr
    swap; · iexact H2
    ipureintro; exact hB _
  iexists _; isplitr
  swap; · iexact H3
  ipureintro; exact hT _

end Cert.AmaxIdeal.Scales

end
-- ==== Proof.Scales.SoundB.lean ====
/- The body at a middle point. -/
module

public import proofs.«01_k».proof.Proof.Scales.SoundPre

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
/-- The body at a middle point. -/
theorem sound_mid (c : Dev nD) (t : Fin cfg0.N) (Y1 Y2 Y3) (n : ℕ) (hn : t.val = n + 1) (h13 : ¬n + 1 = 13) :
    bodyPre m c t Y1 Y2 Y3 ⊢ wp frame (wpE (defs₀ (F := Ideal)) Variants.none c none) Set.univ (bodyAt0 t) (fun _ => bodyPost m c t) := by
  unfold bodyPre bodyPost bodyAt0
  rw [show (rdat m c).owesAt () t.succ = (rdat m c).owesAt () t.castSucc from rfl]
  rw [show (rdat m c).Φ t.succ = PhiR m c (t.val + 1) from rfl, show (rdat m c).Φ t.castSucc = PhiR m c t.val from rfl]
  have hi := coord_val t
  rw [hn] at hi
  rw [hn]
  have hN : n + 1 < 14 := hn ▸ lt_of_lt_of_eq t.isLt (show cfg0.N = 14 from N_0)
  have hc0 : ¬cond0 (grid0.coords t) := fun h => by have := (hcond0 t).mp h; omega
  rw [show PhiR m c (n + 1) = iprop(iprop((∃ d, ⌜P5 (Bk m c) n d⌝ ∗ owns (c : Thread nD τ) scM0_0 fullShare d)
    ∗ (∃ d, ⌜P6 (Bk m c) n d⌝ ∗ owns (c : Thread nD τ) scM0_1 fullShare d)) ∗ (∃ r, prngReg c r)) from rfl]
  rw [show PhiR m c (n + 1 + 1) = iprop(iprop((∃ d, ⌜P5 (Bk m c) (n + 1) d⌝ ∗ owns (c : Thread nD τ) scM0_0 fullShare d)
    ∗ (∃ d, ⌜P6 (Bk m c) (n + 1) d⌝ ∗ owns (c : Thread nD τ) scM0_1 fullShare d)) ∗ (∃ r, prngReg c r)) from rfl]
  have hc1 : ¬cond1 (grid0.coords t) := fun h => by have := (hcond1 t).mp h; omega
  have hB : ∀ X, AfterB m c t X := fun X h => by omega
  have hT : ∀ X, AfterT m c t X := fun X h => by omega
  iintro ⟨⟨⟨⟨%xs0, %hx0, HS0⟩, ⟨%xs1, %hx1, HS1⟩⟩, Hg⟩, Ho, H0, H1, H2, H3⟩
  iapply ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Bk m c (n + 1)) xs0 xs1).2 Set.univ _)
  isplitl [H0]; · iexact H0
  isplitl [H1]; · iexists _; iexact H1
  isplitl [H2]; · iexists _; iexact H2
  isplitl [H3]; · iexists _; iexact H3
  isplitl [HS0]; · iexact HS0
  isplitl [HS1]; · iexact HS1
  iintro ⟨H0, ⟨%d1, H1⟩, ⟨%d2, H2⟩, ⟨%d3, H3⟩, ⟨%es0, HS0⟩, HS1⟩
  isplitl [HS0 HS1 Hg]
  · isplitl [HS0 HS1]
    · isplitl [HS0]
      · iexists _; isplitr
        · ipureintro; exact B_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 xs0 xs1 hx0 es0
        · unfold owns; iexists _; isplitr
          swap; · iexact HS0
          ipureintro; rfl
      · iexists _; isplitr
        · ipureintro; exact B_blocks c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 hi xs0 xs1 hx1
        · unfold owns; iexists _; isplitr
          swap; · iexact HS1
          ipureintro; rfl
    iexact Hg
  isplitl [Ho]; · iexact Ho
  isplitl [H0]
  · iexists _; isplitr
    swap; · iexact H0
    ipureintro; rfl
  isplitl [H1]
  · iexists _; isplitr
    swap; · iexact H1
    ipureintro; trivial
  isplitl [H2]
  · iexists _; isplitr
    swap; · iexact H2
    ipureintro; exact hB _
  iexists _; isplitr
  swap; · iexact H3
  ipureintro; exact hT _

end Cert.AmaxIdeal.Scales

end
-- ==== Proof.Scales.SoundC.lean ====
/- The body at the last point. -/
module

public import proofs.«01_k».proof.Proof.Scales.SoundPre

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
/-- The body at the last point. -/
theorem sound_last (c : Dev nD) (t : Fin cfg0.N) (Y1 Y2 Y3) (n : ℕ) (hn : t.val = n + 1) (h13 : n + 1 = 13) :
    bodyPre m c t Y1 Y2 Y3 ⊢ wp frame (wpE (defs₀ (F := Ideal)) Variants.none c none) Set.univ (bodyAt0 t) (fun _ => bodyPost m c t) := by
  unfold bodyPre bodyPost bodyAt0
  rw [show (rdat m c).owesAt () t.succ = (rdat m c).owesAt () t.castSucc from rfl]
  rw [show (rdat m c).Φ t.succ = PhiR m c (t.val + 1) from rfl, show (rdat m c).Φ t.castSucc = PhiR m c t.val from rfl]
  have hi := coord_val t
  rw [hn] at hi
  rw [hn]
  have hc0 : ¬cond0 (grid0.coords t) := fun h => by have := (hcond0 t).mp h; omega
  rw [show PhiR m c (n + 1) = iprop(iprop((∃ d, ⌜P5 (Bk m c) n d⌝ ∗ owns (c : Thread nD τ) scM0_0 fullShare d)
    ∗ (∃ d, ⌜P6 (Bk m c) n d⌝ ∗ owns (c : Thread nD τ) scM0_1 fullShare d)) ∗ (∃ r, prngReg c r)) from rfl]
  rw [show PhiR m c (n + 1 + 1) = iprop(iprop((∃ d, ⌜P5 (Bk m c) (n + 1) d⌝ ∗ owns (c : Thread nD τ) scM0_0 fullShare d)
    ∗ (∃ d, ⌜P6 (Bk m c) (n + 1) d⌝ ∗ owns (c : Thread nD τ) scM0_1 fullShare d)) ∗ (∃ r, prngReg c r)) from rfl]
  have hc1 : cond1 (grid0.coords t) := (hcond1 t).mpr (by omega)
  iintro ⟨⟨⟨⟨%xs0, %hx0, HS0⟩, ⟨%xs1, %hx1, HS1⟩⟩, Hg⟩, Ho, H0, H1, H2, H3⟩
  iapply ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Bk m c (n + 1)) xs0 xs1).2 Set.univ _)
  isplitl [H0]; · iexact H0
  isplitl [H1]; · iexists _; iexact H1
  isplitl [H2]; · iexists _; iexact H2
  isplitl [H3]; · iexists _; iexact H3
  isplitl [HS0]; · iexact HS0
  isplitl [HS1]; · iexact HS1
  iintro ⟨H0, ⟨%d1, H1⟩, ⟨%e2, H2⟩, ⟨%e3, H3⟩, ⟨%es0, HS0⟩, HS1⟩
  isplitl [HS0 HS1 Hg]
  · isplitl [HS0 HS1]
    · isplitl [HS0]
      · iexists _; isplitr
        · ipureintro; exact C_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 xs0 xs1 hx0 es0
        · unfold owns; iexists _; isplitr
          swap; · iexact HS0
          ipureintro; rfl
      · iexists _; isplitr
        · ipureintro; exact C_blocks c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 hi xs0 xs1 hx1
        · unfold owns; iexists _; isplitr
          swap; · iexact HS1
          ipureintro; rfl
    iexact Hg
  isplitl [Ho]; · iexact Ho
  isplitl [H0]
  · iexists _; isplitr
    swap; · iexact H0
    ipureintro; rfl
  isplitl [H1]
  · iexists _; isplitr
    swap; · iexact H1
    ipureintro; trivial
  isplitl [H2]
  · iexists _; isplitr
    · ipureintro; exact fun _ => C_scales c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 hi xs0 xs1 hx0 hx1 13 h13.symm e2
    · unfold owns; iexists _; isplitr
      swap; · iexact H2
      ipureintro; rfl
  iexists _; isplitr
  · ipureintro; exact fun _ => C_total c (grid0.coords t) (ms0_0 t) (hs0_0 t) (ms0_1 t) (hs0_1 t) (ms0_2 t) (hs0_2 t) (ms0_3 t) (hs0_3 t) scM0_0 (Memref.isWhole_whole _) scM0_1 (Memref.isWhole_whole _) (Bk m c) n hc0 hc1 xs0 xs1 hx0 13 h13.symm e3
  · unfold owns; iexists _; isplitr
    swap; · iexact H3
    ipureintro; rfl

end Cert.AmaxIdeal.Scales

end
-- ==== Proof.Scales.Sound.lean ====
/- The body at any point. -/
module

public import proofs.«01_k».proof.Proof.Scales.SoundA
public import proofs.«01_k».proof.Proof.Scales.SoundB
public import proofs.«01_k».proof.Proof.Scales.SoundC

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) (Y1 Y2 Y3) :
    bodyPre m c t Y1 Y2 Y3 ⊢ wp frame (wpE (defs₀ (F := Ideal)) Variants.none c none) Set.univ (bodyAt0 t) (fun _ => bodyPost m c t) := by
  obtain ⟨n, hn⟩ : ∃ n, t.val = n := ⟨_, rfl⟩
  cases n with
  | zero => exact sound_first m c t Y1 Y2 Y3 hn
  | succ n =>
    by_cases h13 : n + 1 = 13
    · exact sound_last m c t Y1 Y2 Y3 n hn h13
    · exact sound_mid m c t Y1 Y2 Y3 n hn h13

end Cert.AmaxIdeal.Scales

end
-- ==== Proof.Scales.Body.lean ====
/- The body obligation of the pipeline, and the run. -/
module

public import proofs.«01_k».proof.Proof.Scales.Sound

@[expose] public section

set_option maxRecDepth 16384

noncomputable section

namespace Cert.AmaxIdeal.Scales

open Cert.AmaxIdeal Cert.AmaxIdeal.Gen Cert.Scales
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  have h0 : Y 0 = Bk m c t.val := (finds0 m c t (Y 0) (hY 0)).trans (Bk_eq m c t).symm
  rw [bigSep_W0, bigSep_W0, defs₀_row, h0]
  exact triple_restated (sound_body m c t (Y 1) (Y 2) (Y 3)) rfl .rfl fun _ => .rfl

/-- What the launch hands the region is the invariant before the first point. -/
theorem hin (c : Dev nD) : Pipeline.ΦA spec0 c ⊢ (rdat m c).Φ 0 := by
  rw [show (rdat m c).Φ 0 = Pipeline.ΦA spec0 c from rfl]

/-- The invariant after the last point, its contents forgotten. -/
theorem hout (c : Dev nD) : (rdat m c).Φ (Fin.last cfg0.N) ⊢ Pipeline.ΦA spec0 c := by
  have hN : (Fin.last cfg0.N).val = 13 + 1 := by rw [Fin.val_last]; exact N_0
  rw [show (rdat m c).Φ (Fin.last cfg0.N) = PhiR m c (Fin.last cfg0.N).val from rfl, hN, PhiA0_eq]
  rw [show PhiR m c (13 + 1) = iprop(iprop((∃ d, ⌜P5 (Bk m c) 13 d⌝ ∗ owns (c : Thread nD τ) scM0_0 fullShare d)
      ∗ (∃ d, ⌜P6 (Bk m c) 13 d⌝ ∗ owns (c : Thread nD τ) scM0_1 fullShare d)) ∗ (∃ r, prngReg c r)) from rfl]
  iintro ⟨⟨⟨%d5, %h5, HS0⟩, ⟨%d6, %h6, HS1⟩⟩, Hg⟩
  isplitl [HS0 HS1]
  · isplitl [HS0]
    · iexists _; iexact HS0
    · iexists _; iexact HS1
  iexact Hg

set_option backward.isDefEq.respectTransparency.types false in
/-- The run: every array at something it may hold after the write-backs, every semaphore counter zero. -/
theorem run_main : θ_run defs (onTc (τ := τ) (main (F := Ideal))) (s₀ m ρ) (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => ite_self _)
    (howed := fun _ _ => rfl) (V := V m) (hmain := hmain m Variants.none) (hA := A_eq m) (hin := hin m) (hout := hout m)

end Cert.AmaxIdeal.Scales

end
-- ==== Proof.Scales.Final.lean ====
/-
  What the amax kernel leaves: its tensor scale comes from the largest magnitude of the whole weight, its block scale from the
  largest magnitude of the block, both stated by their upper bounds.
-/
module

public import proofs.«01_k».proof.Proof.Scales.Body
public import Idealize.ShloMosaic.Lib.Pointwise

@[expose] public section

set_option maxRecDepth 16384

noncomputable section

namespace Cert.AmaxIdeal.Scales

open Cert.AmaxIdeal Cert.AmaxIdeal.Gen Cert.Scales
open Idealize.ShloMosaic Idealize.ShloMosaic.TcCoe
open Idealize.SL Idealize.SL.Sem
open Idealize.ShloMosaic.Pipeline (RDat)

/-- The magnitude of an entry of the weight. -/
def amag (w : Vec Ideal S14336x4096 .bf16) (a : Fin 14336) (b : Fin 4096) : EReal := max (w (ix2 a b)) (-(w (ix2 a b)))

/-- `v` is the largest magnitude of the weight. -/
def Top (w : Vec Ideal S14336x4096 .bf16) (v : EReal) : Prop := ∀ z : EReal, v ≤ z ↔ ∀ a b, amag w a b ≤ z

/-- `v` is the largest magnitude of the block (a, j) of 16 by 16 entries of the weight. -/
def BlockTop (w : Vec Ideal S14336x4096 .bf16) (a : Fin 896) (j : Fin 256) (v : EReal) : Prop :=
  ∀ z : EReal, v ≤ z ↔ ∀ κ ρ : Fin 16, amag w ⟨16 * a.val + ρ.val, by omega⟩ ⟨16 * j.val + κ.val, by omega⟩ ≤ z

theorem amag_nonneg (w : Vec Ideal S14336x4096 .bf16) (a : Fin 14336) (b : Fin 4096) : 0 ≤ amag w a b := by
  unfold amag
  rcases le_total (0 : EReal) (w (ix2 a b)) with h | h
  · exact le_max_of_le_left h
  · exact le_max_of_le_right (by rw [EReal.neg_nonneg]; exact h)

/-- The weight's block at point `t` is its rows from `1024 t` on. -/
def Rows (B : ℕ → Blk) (w : Vec Ideal S14336x4096 .bf16) : Prop :=
  ∀ (t : ℕ) (ht : t < 14) (a : Fin 1024) (b : Fin 4096), B t (ix2 a b) = w (ix2 ⟨1024 * t + a.val, by omega⟩ b)

theorem mg_eq {B : ℕ → Blk} {w : Vec Ideal S14336x4096 .bf16} (h : Rows B w) (t : ℕ) (ht : t < 14) (a b : ℕ) (ha : a < 1024) (hb : b < 4096) :
    mg (B t) a b = amag w ⟨1024 * t + a, by omega⟩ ⟨b, hb⟩ := by
  have ea : Fin.ofNat 1024 a = ⟨a, ha⟩ := Fin.ext (Nat.mod_eq_of_lt ha)
  have eb : Fin.ofNat 4096 b = ⟨b, hb⟩ := Fin.ext (Nat.mod_eq_of_lt hb)
  unfold mg amag
  rw [ea, eb, h t ht]

/-- The largest entry of the running maximum. -/
def tot (d : FVec Ideal S64x128 .bf16) : EReal :=
  multiReduction .maximumf [1, 2] S1 (shapeCast S1x64x128 (extf .f32 d bitsLt_bf16_f32) shapeCasts_S64x128_S1x64x128) 0xFF800000#32
    reduces_S1x64x128_S1 (.inl rfl) rfl (ix1 0)

theorem tot_le (d : FVec Ideal S64x128 .bf16) (z : EReal) : tot d ≤ z ↔ ∀ r l, d (ix2 r l) ≤ z := by
  have e : ∀ (r : Fin 64) (l : Fin 128), shapeCast S1x64x128 (extf .f32 d bitsLt_bf16_f32) shapeCasts_S64x128_S1x64x128
      (ix3 (n0 := 1) (n1 := 64) (n2 := 128) 0 r l) = d (ix2 r l) := fun r l => by
    refine (shapeCast_apply _ _ _ (ix2 r l) ?_).trans rfl
    rw [Shape.rowMajor_val_two, Shape.rowMajor_val_three]
    show r.val * 128 + l.val = (0 * 64 + r.val) * 128 + l.val
    omega
  unfold tot
  refine (multiReduction_le _ _ _ _ _ z).trans ⟨fun h r l => ?_, fun h i _ => ?_⟩
  · rw [← e r l]
    exact h _ (funext fun a => by fin_cases a; exact Subsingleton.elim (α := Fin 1) _ _)
  · have e0 : i 0 = (0 : Fin 1) := Subsingleton.elim (α := Fin 1) _ _
    have ei : i = ix3 (n0 := 1) (n1 := 64) (n2 := 128) 0 (i 1) (i 2) := by rw [← e0]; exact eq_ix3 i
    rw [ei]
    exact (e (i 1) (i 2)).le.trans (h _ _)

theorem top_of_P5 {B : ℕ → Blk} {w : Vec Ideal S14336x4096 .bf16} (h : Rows B w) {d : FVec Ideal S64x128 .bf16} (hd : P5 B 13 d) :
    Top w (tot d) := fun z => by
  rw [tot_le]
  constructor
  · intro hz a b
    have ha := a.isLt
    have hb := b.isLt
    have := ((hd ⟨a.val % 1024 / 16, by omega⟩ ⟨b.val % 128, by omega⟩ z).mp (hz _ _)).2 (a.val / 1024) (by omega) ⟨b.val / 128, by omega⟩
      ⟨b.val % 16, by omega⟩ ⟨a.val % 16, by omega⟩
    rw [mg_eq h _ (by omega) _ _ (by dsimp only; omega) (by dsimp only; omega)] at this
    convert this using 2
    · apply Fin.ext; dsimp only; omega
    · apply Fin.ext; dsimp only; omega
  · intro hz r l
    refine (hd r l z).mpr ⟨(amag_nonneg w 0 0).trans (hz 0 0), fun t ht k κ ρ => ?_⟩
    rw [mg_eq h _ (by omega) _ _ (by omega) (by omega)]
    exact hz _ _

theorem blockTop_of_P6 {B : ℕ → Blk} {w : Vec Ideal S14336x4096 .bf16} (h : Rows B w) {d : Vec Ideal S896x256 .bf16} (hd : P6 B 13 d)
    (a : Fin 896) (j : Fin 256) : BlockTop w a j (d (ix2 a j)) := fun z => by
  have ha := a.isLt
  rw [hd (a.val / 64) (by omega) ⟨a.val % 64, by omega⟩ j a (by dsimp only; omega) z]
  refine forall_congr' fun κ => forall_congr' fun ρ => ?_
  rw [mg_eq h _ (by omega) _ _ (by dsimp only; omega) (by omega)]
  refine iff_of_eq (congrArg (· ≤ z) (congrArg₂ (amag w) (Fin.ext ?_) rfl))
  dsimp only
  omega

/-- The tensor scale from the largest magnitude. -/
def scaleT (v : EReal) : EReal := FloatOps.divf (F := Ideal) (φ := .f32) v (FloatOps.ofBits (F := Ideal) .f32 0x45280000#32)

/-- A block's scale from the largest magnitude and the block's largest magnitude. -/
def scaleB (v b : EReal) : EReal :=
  FloatOps.minimumf (F := Ideal) (φ := .f32)
    (FloatOps.divf (F := Ideal) (φ := .f32) b (FloatOps.mulf (F := Ideal) (φ := .f32) (scaleT v) (FloatOps.ofBits (F := Ideal) .f32 0x40C00000#32)))
    (FloatOps.ofBits (F := Ideal) .f32 0x43E00000#32)

theorem one_apply (v : FVec Ideal S1 .f32) :
    extractAt ![0, 0, 0] (shapeCast S1x1x1 v shapeCasts_S1_S1x1x1) inpos_S1x1x1_p0_0_0 = v (ix1 0) := by
  unfold extractAt
  refine shapeCast_apply _ _ _ (ix1 0) ?_
  have h1 : (S1.rowMajor (ix1 0)).val < 1 := lt_of_lt_of_eq (Fin.isLt _) (by decide)
  have h2 : ∀ k, (S1x1x1.rowMajor k).val < 1 := fun k => lt_of_lt_of_eq (Fin.isLt _) (by decide)
  exact (Nat.lt_one_iff.mp h1).trans (Nat.lt_one_iff.mp (h2 _)).symm

theorem div_const (x : EReal) (b : BitVec 32) (i : S1x1.Idx) :
    (divf (broadcast S1x1 (x : Ideal .f32)) (broadcast S1x1 (Scalar.ofBits (F := Ideal) .f32 b)) : FVec Ideal S1x1 .f32) i
      = FloatOps.divf (F := Ideal) (φ := .f32) x (FloatOps.ofBits (F := Ideal) .f32 b) := rfl

theorem pay1_apply (d : FVec Ideal S64x128 .bf16) (i : S1x1.Idx) : k0_pay1 d i = scaleT (tot d) := by
  unfold k0_pay1
  rw [one_apply]
  refine (div_const _ _ i).trans ?_
  unfold scaleT tot
  rfl

theorem pay2_eq (d : FVec Ideal S64x128 .bf16) : k0_pay2 d = scaleT (tot d) := by
  unfold k0_pay2 extractAt
  exact pay1_apply d _

theorem scaled_apply (e : Vec Ideal S896x256 .bf16) (p : FVec Ideal S1x1 .f32) (b b' : BitVec 32) (i : S896x256.Idx) :
    truncf .fp8e4m3 (minimumf (divf (extf .f32 e bitsLt_bf16_f32 : FVec Ideal S896x256 .f32)
      (mulf (broadcastTo S896x256 p broadcasts_S1x1_S896x256) (broadcast S896x256 (Scalar.ofBits (F := Ideal) .f32 b))))
      (broadcast S896x256 (Scalar.ofBits (F := Ideal) .f32 b'))) bitsLt_fp8e4m3_f32 i
      = FloatOps.minimumf (F := Ideal) (φ := .f32) (FloatOps.divf (F := Ideal) (φ := .f32) (e i) (FloatOps.mulf (F := Ideal) (φ := .f32)
          (broadcastTo S896x256 p broadcasts_S1x1_S896x256 i) (FloatOps.ofBits (F := Ideal) .f32 b))) (FloatOps.ofBits (F := Ideal) .f32 b') := rfl

theorem pay3_apply (d : FVec Ideal S64x128 .bf16) (e : Vec Ideal S896x256 .bf16) (i : S896x256.Idx) :
    k0_pay3 d e i = scaleB (tot d) (e i) := by
  unfold k0_pay3
  rw [shapeCast_self]
  refine (scaled_apply e _ _ _ i).trans ?_
  rw [broadcastTo_apply (k0_pay1 d) broadcasts_S1x1_S896x256 i (ix2 0 0) (fun a => by fin_cases a <;> rfl), pay1_apply]
  unfold scaleB
  with_reducible rfl

variable (m : (ℓ : Loc nD τ sig) → Buf (Elt Ideal) ℓ) (ρ : Dev nD → PrngReg)

/-- The weight on a core. -/
abbrev wt (c : Dev nD) : Vec Ideal S14336x4096 .bf16 := m ((c.tc : Thread nD τ).loc main_arg0)

theorem offs : ∀ t : Fin grid0.N, win0_0.index t 0 * win0_0.size 0 = t.val * 1024 ∧ win0_0.index t 1 * win0_0.size 1 = 0 := by
  decide +kernel

theorem rows (c : Dev nD) : Rows (Bk m c) (wt m c) := fun t ht a b => by
  have htN : t < cfg0.N := Nat.lt_of_lt_of_eq ht N_0.symm
  have e := offs ⟨t, htN⟩
  rw [show Bk m c t = iblk m c 0 ⟨t, htN⟩ from dif_pos htN]
  show (V m c main_arg0 : Vec Ideal S14336x4096 .bf16) _ = _
  rw [V_main_arg0]
  refine congrArg (wt m c) ?_
  funext x
  apply Fin.ext
  match x with
  | ⟨0, _⟩ =>
    show win0_0.index ⟨t, htN⟩ 0 * win0_0.size 0 + 1 * a.val = 1024 * t + a.val
    rw [e.1]; dsimp only; omega
  | ⟨1, _⟩ =>
    show win0_0.index ⟨t, htN⟩ 1 * win0_0.size 1 + 1 * b.val = b.val
    rw [e.2]; omega

end Cert.AmaxIdeal.Scales

end
-- ==== Proof.Scales.Outputs.lean ====
/-
  What the run of the amax kernel ends with, in its two scale arrays.
-/
module

public import proofs.«01_k».proof.Proof.Scales.Final

@[expose] public section

set_option maxRecDepth 16384

noncomputable section

namespace Cert.AmaxIdeal.Scales

open Cert.AmaxIdeal Cert.AmaxIdeal.Gen Cert.Scales
open Idealize.ShloMosaic Idealize.ShloMosaic.TcCoe
open Idealize.SL Idealize.SL.Sem
open Idealize.ShloMosaic.Pipeline (RDat)

variable (m : (ℓ : Loc nD τ sig) → Buf (Elt Ideal) ℓ) (ρ : Dev nD → PrngReg)

/-- The last grid point. -/
def lastPt : Fin cfg0.N := ⟨13, Nat.lt_of_lt_of_eq (by decide) N_0.symm⟩

theorem whole2 : (cfg0.win 2).WholeAt lastPt := by decide +kernel
theorem whole3 : (cfg0.win 3).WholeAt lastPt := by decide +kernel

theorem leaves2 (c : Dev nD) (X) (h : (rdat m c).Leaves 2 lastPt X) : ∃ d5 d6, P5 (Bk m c) 13 d5 ∧ P6 (Bk m c) 13 d6 ∧ X = k0_pay3 d5 d6 := by
  obtain ⟨Y, _, hX⟩ := h
  exact (show AfterB m c lastPt X from hX) rfl

theorem leaves3 (c : Dev nD) (X) (h : (rdat m c).Leaves 3 lastPt X) : ∃ d5, P5 (Bk m c) 13 d5 ∧ X = fun _ => k0_pay2 d5 := by
  obtain ⟨Y, _, hX⟩ := h
  exact (show AfterT m c lastPt X from hX) rfl

/-- The block scales at the end. -/
theorem out2 (c : Dev nD) (G : Vec Ideal S896x256 .fp8e4m3) (hG : (rdat m c).ArrAt 2 cfg0.N G) :
    ∃ d5 d6, P5 (Bk m c) 13 d5 ∧ P6 (Bk m c) 13 d6 ∧ ∀ a j, G (ix2 a j) = k0_pay3 d5 d6 (ix2 a j) := by
  obtain ⟨X, hX, hj⟩ := RDat.ArrAt.emb_eq_of_wholeAt (rd := rdat m c) (w := 2) (t₀ := lastPt) hG whole2
  obtain ⟨d5, d6, h5, h6, e⟩ := leaves2 m c X hX
  refine ⟨d5, d6, h5, h6, fun a j => ?_⟩
  have := hj (ix2 a j)
  rw [e] at this
  refine Eq.trans ?_ (this.trans ?_)
  · refine congrArg G ?_
    funext x
    apply Fin.ext
    match x with
    | ⟨0, _⟩ => rfl
    | ⟨1, _⟩ => rfl
  · refine congrArg (k0_pay3 d5 d6) ?_
    funext x
    apply Fin.ext
    match x with
    | ⟨0, _⟩ => rfl
    | ⟨1, _⟩ => rfl

/-- The tensor scale at the end. -/
theorem out3 (c : Dev nD) (G : Vec Ideal S1 .f32) (hG : (rdat m c).ArrAt 3 cfg0.N G) :
    ∃ d5, P5 (Bk m c) 13 d5 ∧ ∀ i, G (ix1 i) = k0_pay2 d5 := by
  obtain ⟨X, hX, hj⟩ := RDat.ArrAt.emb_eq_of_wholeAt (rd := rdat m c) (w := 3) (t₀ := lastPt) hG whole3
  obtain ⟨d5, h5, e⟩ := leaves3 m c X hX
  refine ⟨d5, h5, fun i => ?_⟩
  have := hj (ix1 i)
  rw [e] at this
  refine Eq.trans ?_ this
  refine congrArg G ?_
  funext x
  apply Fin.ext
  match x with
  | ⟨0, _⟩ => rfl

/-- The run, its results told apart: the weight is kept, the scales are those of the largest magnitudes, every semaphore is zero. -/
theorem run_values : θ_run defs (onTc (τ := τ) (main (F := Ideal))) (s₀ m ρ) (fun r =>
    (∀ c : Dev nD, (r.2.mem ((c.tc : Thread nD τ).loc main_arg0) = m ((c.tc : Thread nD τ).loc main_arg0))
      ∧ (∃ d5 d6, P5 (Bk m c) 13 d5 ∧ P6 (Bk m c) 13 d6
        ∧ ∀ a j, (r.2.mem ((c.tc : Thread nD τ).loc main_v0_1) : Vec Ideal S896x256 .fp8e4m3) (ix2 a j) = k0_pay3 d5 d6 (ix2 a j))
      ∧ (∃ d5, P5 (Bk m c) 13 d5
        ∧ ∀ i, (r.2.mem ((c.tc : Thread nD τ).loc main_v0_2) : Vec Ideal S1 .f32) (ix1 i) = k0_pay2 d5))
    ∧ r.2.sem = fun _ => 0) := by
  refine (θ_run defs _ _).mono (fun r h => ⟨fun c => ⟨?_, ?_, ?_⟩, h.2⟩) (run_main m ρ)
  · exact (RDat.FramePost.arr_in h.1 c 0 rfl).trans ((A_eq m c 0).trans (V_main_arg0 m c))
  · exact out2 m c _ ((h.1 c).1 2)
  · exact out3 m c _ ((h.1 c).1 3)

end Cert.AmaxIdeal.Scales

end
-- ==== Proof.Scales.Reference.lean ====
/-
  What the reference for the scales computes, and that the kernel's scales are those: both come from the same largest magnitudes,
  which their upper bounds determine.
-/
module

public import proofs.«01_k».proof.Proof.Scales.Outputs
public import proofs.«01_k».proof.Proof.Gen.AmaxReferenceIdeal.Run

@[expose] public section

set_option maxRecDepth 16384

noncomputable section

namespace Cert.AmaxReferenceIdeal.Scales

open Cert.AmaxReferenceIdeal Cert.AmaxReferenceIdeal.Gen
open Cert.AmaxIdeal.Scales (amag Top BlockTop scaleT scaleB)
open Idealize.ShloMosaic Idealize.ShloMosaic.TcCoe
open Idealize.SL Idealize.SL.Sem

/-- The reference's maximum along axes is at most `z` exactly when all the entries it runs over are. -/
theorem hostReduce_le {s t : Shape} {axes : List (Fin s.rank)} (x : FVec Ideal s .f32) (h : s.ReducesTo axes t)
    (hu : 0 < S_.numel) (j : t.Idx) (z : EReal) :
    Host.reduce FloatOps.maximumf x (constant S_ .f32 0xFF800000#32) h hu j ≤ z ↔ ∀ i, h.drop i = j → x i ≤ z := by
  have hb : (FloatOps.ofBits (F := Ideal) .f32 0xFF800000#32 : EReal) = ⊥ := by
    show Ideal.ofBits .f32 0xFF800000#32 = ⊥
    simp [Ideal.ofBits, Ideal.ieee]
  have e : Host.reduce FloatOps.maximumf x (constant S_ .f32 0xFF800000#32) h hu j
      = (Finset.univ.filter fun i => h.drop i = j).fold (max : EReal → EReal → EReal) (FloatOps.ofBits (F := Ideal) .f32 0xFF800000#32 : EReal) x := by
    rw [Host.reduce_eq_foldl]
    exact (Shape.foldl_filter_rowMajor_eq_foldl h.drop (max : EReal → EReal → EReal) _ x j).symm.trans
      (Shape.foldl_filter_rowMajor_eq_fold h.drop (max : EReal → EReal → EReal) _ x j)
  rw [e, Finset.fold_max_le, hb]
  simp

/-- The largest magnitude, as the reference takes it. -/
def topR (w : Vec Ideal S14336x4096 .bf16) : FVec Ideal S_ .f32 :=
  Host.reduce FloatOps.maximumf (Host.absf (extf .f32 w bitsLt_bf16_f32 : FVec Ideal S14336x4096 .f32)) (constant S_ .f32 0xFF800000#32) reducesTo_S14336x4096_S_d0_1 h_S_

/-- The blocks' largest magnitudes, as the reference takes them. -/
def blockR (w : Vec Ideal S14336x4096 .bf16) : FVec Ideal S896x256 .f32 :=
  Host.reduce FloatOps.maximumf (Host.absf (shapeCast S896x16x256x16 (extf .f32 w bitsLt_bf16_f32 : FVec Ideal S14336x4096 .f32) shapeCasts_S14336x4096_S896x16x256x16)) (constant S_ .f32 0xFF800000#32) reducesTo_S896x16x256x16_S896x256_d1_3 h_S_

theorem absf_apply (w : Vec Ideal S14336x4096 .bf16) (a : Fin 14336) (b : Fin 4096) :
    Host.absf (extf .f32 w bitsLt_bf16_f32 : FVec Ideal S14336x4096 .f32) (ix2 a b) = amag w a b := rfl

theorem absf_block_apply (w : Vec Ideal S14336x4096 .bf16) (a : Fin 896) (ρ : Fin 16) (j : Fin 256) (κ : Fin 16) :
    Host.absf (shapeCast S896x16x256x16 (extf .f32 w bitsLt_bf16_f32 : FVec Ideal S14336x4096 .f32) shapeCasts_S14336x4096_S896x16x256x16) (ix4 a ρ j κ)
      = amag w ⟨16 * a.val + ρ.val, by omega⟩ ⟨16 * j.val + κ.val, by omega⟩ := by
  rw [← absf_apply]
  refine congrArg (FloatOps.hostAbsf (F := Ideal) (φ := .f32)) (shapeCast_apply _ _ _ _ ?_)
  rw [Shape.rowMajor_val_two, Shape.rowMajor_val_four]
  show (16 * a.val + ρ.val) * 4096 + (16 * j.val + κ.val) = ((a.val * 16 + ρ.val) * 256 + j.val) * 16 + κ.val
  omega

theorem topR_top (w : Vec Ideal S14336x4096 .bf16) (i : S_.Idx) : Top w (topR w i) := fun z => by
  unfold topR
  refine (hostReduce_le _ _ _ _ z).trans ⟨fun h a b => ?_, fun h k _ => ?_⟩
  · rw [← absf_apply]
    exact h _ (funext fun x => x.elim0)
  · rw [eq_ix2 k]
    exact (absf_apply w _ _).le.trans (h _ _)

theorem blockR_top (w : Vec Ideal S14336x4096 .bf16) (a : Fin 896) (j : Fin 256) : BlockTop w a j (blockR w (ix2 a j)) := fun z => by
  unfold blockR
  refine (hostReduce_le _ _ _ _ z).trans ⟨fun h κ ρ => ?_, fun h k hk => ?_⟩
  · rw [← absf_block_apply]
    exact h _ (by funext b; fin_cases b <;> rfl)
  · have e0 : k 0 = a := congrFun hk 0
    have e2 : k 2 = j := congrFun hk 1
    have e : k = ix4 (n0 := 896) (n1 := 16) (n2 := 256) (n3 := 16) a (k 1) j (k 3) := by rw [← e0, ← e2]; exact eq_ix4 k
    rw [e]
    exact (absf_block_apply w _ _ _ _).le.trans (h _ _)

/-- The tensor scale as the reference computes it. -/
def termT (w : Vec Ideal S14336x4096 .bf16) : Vec Ideal S1 .f32 :=
  shapeCast S1 (Host.divf (topR w) (constant S_ .f32 0x45280000#32)) shapeCasts_S_S1

/-- The block scales as the reference computes them. -/
def termB (w : Vec Ideal S14336x4096 .bf16) : Vec Ideal S896x256 .fp8e4m3 :=
  Host.convertf .fp8e4m3 (minimumf (Host.divf (blockR w) (broadcastInDim S896x256 ![] bcast_S_S896x256 (mulf (Host.divf (topR w) (constant S_ .f32 0x45280000#32)) (constant S_ .f32 0x40C00000#32)))) (broadcastInDim S896x256 ![] bcast_S_S896x256 (constant S_ .f32 0x43E00000#32)))

theorem termT_apply (w : Vec Ideal S14336x4096 .bf16) (i : S1.Idx) : ∃ k, termT w i = scaleT (topR w k) := by
  unfold termT scaleT shapeCast
  exact ⟨_, rfl⟩

theorem termB_apply (w : Vec Ideal S14336x4096 .bf16) (i : S896x256.Idx) : ∃ k, termB w i = scaleB (topR w k) (blockR w i) := by
  unfold termB scaleB scaleT
  generalize topR w = p
  generalize blockR w = q
  exact ⟨_, rfl⟩

/-- Two values with the same upper bounds are equal. -/
theorem top_unique {w : Vec Ideal S14336x4096 .bf16} {u v : EReal} (hu : Top w u) (hv : Top w v) : u = v :=
  eq_of_forall_ge_iff fun z => (hu z).trans (hv z).symm

theorem blockTop_unique {w : Vec Ideal S14336x4096 .bf16} {a : Fin 896} {j : Fin 256} {u v : EReal} (hu : BlockTop w a j u)
    (hv : BlockTop w a j v) : u = v :=
  eq_of_forall_ge_iff fun z => (hu z).trans (hv z).symm

theorem scaleT_eq {w : Vec Ideal S14336x4096 .bf16} {v : EReal} (hv : Top w v) (i : S1.Idx) : scaleT v = termT w i := by
  obtain ⟨k, e⟩ := termT_apply w i
  rw [e, top_unique hv (topR_top w k)]

theorem scaleB_eq {w : Vec Ideal S14336x4096 .bf16} {v b : EReal} {a : Fin 896} {j : Fin 256} (hv : Top w v) (hb : BlockTop w a j b) :
    scaleB v b = termB w (ix2 a j) := by
  obtain ⟨k, e⟩ := termB_apply w (ix2 a j)
  rw [e, top_unique hv (topR_top w k), blockTop_unique hb (blockR_top w a j)]

end Cert.AmaxReferenceIdeal.Scales

namespace Cert.AmaxIdeal.Scales

open Cert.AmaxIdeal Cert.AmaxIdeal.Gen
open Cert.AmaxReferenceIdeal.Scales (termT termB scaleT_eq scaleB_eq)
open Idealize.ShloMosaic Idealize.ShloMosaic.TcCoe
open Idealize.SL Idealize.SL.Sem

variable (m : (ℓ : Loc nD τ sig) → Buf (Elt Ideal) ℓ) (ρ : Dev nD → PrngReg)

/-- The run of the kernel ends with the reference's scales of its weight. -/
theorem run_reference : θ_run defs (onTc (τ := τ) (main (F := Ideal))) (s₀ m ρ) (fun r =>
    (∀ c : Dev nD, r.2.mem ((c.tc : Thread nD τ).loc main_v0_1) = termB (wt m c)
      ∧ r.2.mem ((c.tc : Thread nD τ).loc main_v0_2) = termT (wt m c)
      ∧ r.2.mem ((c.tc : Thread nD τ).loc main_arg0) = m ((c.tc : Thread nD τ).loc main_arg0))
    ∧ r.2.sem = fun _ => 0) := by
  refine (θ_run defs _ _).mono (fun r h => ⟨fun c => ?_, h.2⟩) (run_values m ρ)
  obtain ⟨hw, ⟨d5, d6, h5, h6, hB⟩, ⟨d5', h5', hT⟩⟩ := h.1 c
  refine ⟨funext fun i => ?_, funext fun i => ?_, hw⟩
  · have ei : i = ix2 (n0 := 896) (n1 := 256) (i 0) (i 1) := eq_ix2 i
    rw [ei]
    refine (hB _ _).trans ((pay3_apply d5 d6 _).trans (scaleB_eq (top_of_P5 (rows m c) h5) (blockTop_of_P6 (rows m c) h6 _ _)))
  · have ei : i = ix1 (n0 := 1) (i 0) := eq_ix1 i
    rw [ei]
    exact (hT _).trans ((pay2_eq d5').trans (scaleT_eq (top_of_P5 (rows m c) h5') _))

end Cert.AmaxIdeal.Scales

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Kept.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxReferenceIdeal
public import proofs.«01_k».proof.Proof.Gen.KernelIdeal.Value
public import proofs.«01_k».proof.Proof.Gen.ReferenceIdeal.Run
public import proofs.«01_k».proof.Proof.Gen.AmaxReferenceIdeal.Run
public import proofs.«01_k».proof.Proof.Mat.Kernel
public import proofs.«01_k».proof.Proof.Mat.Reference
public import proofs.«01_k».proof.Proof.Scales.Body
public import proofs.«01_k».proof.Proof.Scales.Final
public import proofs.«01_k».proof.Proof.Scales.Reference
public import Idealize.ShloMosaic.Adequacy
public import Idealize.ShloMosaic.Init

@[expose] public section

noncomputable section

namespace Cert.Proof

open Idealize.ShloMosaic Idealize.SL.Sem

/-- The reference leaves its arguments as they were, and has no semaphore that could be left raised. -/
theorem quiescentReference : Cert.quiescent_ReferenceIdeal (hReferenceIdeal := Cert.ReferenceIdeal.Gen.facts) := by
  intro m g _
  refine (θ_run (Cert.ReferenceIdeal.defs (F := Ideal)) _ _).mono (fun r h => ⟨fun c => (h c).2, ?_⟩)
    (Cert.ReferenceIdeal.Value.run (F := Ideal) m g)
  exact sem_eq_zero_of_no_sems (by decide) _

/-- From equal arguments both programs end with the product of the activations and the weight, times the scale. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, Cert.KernelIdeal.Mat.run m g, ?_⟩
  refine (θ_run (Cert.ReferenceIdeal.defs (F := Ideal)) _ _).mono (fun r h c => ?_) (Cert.ReferenceIdeal.Value.run (F := Ideal) m' g')
  obtain ⟨hv, h0⟩ := h c
  refine ⟨hv.trans ?_, h0⟩
  rw [(hargs c).1, (hargs c).2.1, (hargs c).2.2]
  exact (Cert.ReferenceIdeal.Mat.term_eq _ _ _ _).symm

/-- The program of the scales, as idealized, keeps its weight and ends with every semaphore at zero. -/
theorem quiescentAmax : Cert.quiescent_AmaxIdeal (hAmaxIdeal := Cert.AmaxIdeal.Gen.facts) := by
  intro m g _
  exact (θ_run (Cert.AmaxIdeal.defs (F := Ideal)) _ _).mono (fun r h => ⟨fun c => (h.1 c).2.2, h.2⟩)
    (Cert.AmaxIdeal.Scales.run_reference m g)

/-- The reference of the scales leaves its weight as it was, and has no semaphore that could be left raised. -/
theorem quiescentAmaxReference : Cert.quiescent_AmaxReferenceIdeal (hAmaxReferenceIdeal := Cert.AmaxReferenceIdeal.Gen.facts) := by
  intro m g _
  refine (θ_run (Cert.AmaxReferenceIdeal.defs (F := Ideal)) _ _).mono (fun r h => ⟨fun c => (h c).2.2, ?_⟩)
    (Cert.AmaxReferenceIdeal.Value.run (F := Ideal) m g)
  exact sem_eq_zero_of_no_sems (by decide) _

/-- From equal weights both programs end with the same block scales and tensor scale. -/
theorem algebraicAmax : Cert.algebraic_AmaxIdeal_AmaxReferenceIdeal (hAmaxIdeal := Cert.AmaxIdeal.Gen.facts)
    (hAmaxReferenceIdeal := Cert.AmaxReferenceIdeal.Gen.facts) := by
  intro m g m' g' _ hargs
  refine ⟨fun c => Cert.AmaxReferenceIdeal.Scales.termB (Cert.AmaxIdeal.Scales.wt m c),
    fun c => Cert.AmaxReferenceIdeal.Scales.termT (Cert.AmaxIdeal.Scales.wt m c),
    (θ_run (Cert.AmaxIdeal.defs (F := Ideal)) _ _).mono (fun r h => h.1) (Cert.AmaxIdeal.Scales.run_reference m g), ?_⟩
  refine (θ_run (Cert.AmaxReferenceIdeal.defs (F := Ideal)) _ _).mono (fun r h c => ?_)
    (Cert.AmaxReferenceIdeal.Value.run (F := Ideal) m' g')
  obtain ⟨hB, hT, h0⟩ := h c
  refine ⟨hB.trans ?_, hT.trans ?_, h0⟩
  · rw [hargs c]
    unfold Cert.AmaxReferenceIdeal.Scales.termB Cert.AmaxReferenceIdeal.Scales.blockR Cert.AmaxReferenceIdeal.Scales.topR
    rfl
  · rw [hargs c]
    unfold Cert.AmaxReferenceIdeal.Scales.termT Cert.AmaxReferenceIdeal.Scales.topR
    rfl

theorem claim : Cert.Claim :=
  ⟨Cert.Kernel.Gen.facts, Cert.KernelIdeal.Gen.facts, Cert.ReferenceIdeal.Gen.facts, Cert.Amax.Gen.facts, Cert.AmaxIdeal.Gen.facts,
    Cert.AmaxReferenceIdeal.Gen.facts, fun m g _ => Cert.Kernel.Gen.frame m g, fun m g _ => Cert.KernelIdeal.Gen.frame m g,
    quiescentReference, fun m g _ => Cert.Amax.Kept.frame m g, quiescentAmax, quiescentAmaxReference, trivial, algebraic, trivial,
    algebraicAmax⟩

end Cert.Proof

end
